-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonneg [hPre_scales_nonneg : Cert.Pre_scales_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonneg [hPre_scales_nonneg : Cert.Pre_scales_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_nonneg [hKernelIdeal : Cert.KernelIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_nonneg [hReferenceIdeal : Cert.ReferenceIdeal.Facts] [hPre_scales_nonneg : Cert.Pre_scales_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_scales_nonneg [hKernelIdeal : Cert.KernelIdeal.Facts] [hReferenceIdeal : Cert.ReferenceIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_nonneg : Cert.Pre_scales_nonneg.Facts),
    quiescent_Kernel (hKernel := hKernel)
    ∧ quiescent_KernelIdeal (hKernelIdeal := hKernelIdeal)
    ∧ quiescent_KernelIdeal_pre_scales_nonneg (hKernelIdeal := hKernelIdeal) (hPre_scales_nonneg := hPre_scales_nonneg)
    ∧ quiescent_ReferenceIdeal (hReferenceIdeal := hReferenceIdeal)
    ∧ quiescent_ReferenceIdeal_pre_scales_nonneg (hReferenceIdeal := hReferenceIdeal) (hPre_scales_nonneg := hPre_scales_nonneg)
    ∧ preserves_Kernel_KernelIdeal
    ∧ algebraic_KernelIdeal_ReferenceIdeal_pre_scales_nonneg (hKernelIdeal := hKernelIdeal) (hReferenceIdeal := hReferenceIdeal) (hPre_scales_nonneg := hPre_scales_nonneg)
-- ==== Pre_scales_nonneg.lean ====
abbrev S128x64 : Shape := ⟨2, ![128, 64]⟩
abbrev S16x128 : Shape := ⟨2, ![16, 128]⟩
abbrev S64x64x16384 : Shape := ⟨3, ![64, 64, 16384]⟩
abbrev S16x16384x64 : Shape := ⟨3, ![16, 16384, 64]⟩
abbrev S16x64x16384 : Shape := ⟨3, ![16, 64, 16384]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_

variable [Facts]

def fn {F : FTy → Type} [FloatOps F] (main_arg0 : FVec F S128x64 .f32) (main_arg1 : FVec F S16x128 .f32) (main_arg2 : FVec F S16x128 .f32) (main_arg3 : FVec F S64x64x16384 .fp8e4m3) (main_arg4 : FVec F S16x16384x64 .fp8e4m3) (main_arg5 : FVec F S16x64x16384 .fp8e4m3) : IVec S_ 1 :=
  let main_cst : FVec F S_ .f32 := constant S_ .f32 0x00000000#32
  let main_v0 : FVec F S128x64 .f32 := broadcastInDim S128x64 ![] bcast_S_S128x64 main_cst
  let main_v1 : IVec S128x64 1 := cmpf .oge main_arg0 main_v0
  let main_c : IVec S_ 1 := constantI S_ 1 1#1
  let main_v2 : IVec S_ 1 := (fun x v => Host.reduce IntOp.andi x v reducesTo_S128x64_S_d0_1 h_S_) main_v1 main_c
  let main_cst_0 : FVec F S_ .f32 := constant S_ .f32 0x00000000#32
  let main_v3 : FVec F S16x128 .f32 := broadcastInDim S16x128 ![] bcast_S_S16x128 main_cst_0
  let main_v4 : IVec S16x128 1 := cmpf .oge main_arg1 main_v3
  let main_c_1 : IVec S_ 1 := constantI S_ 1 1#1
  let main_v5 : IVec S_ 1 := (fun x v => Host.reduce IntOp.andi x v reducesTo_S16x128_S_d0_1 h_S_) main_v4 main_c_1
  let main_v6 : IVec S_ 1 := andi main_v2 main_v5
  main_v6
-- ==== Kernel.lean ====
abbrev S128x64 : Shape := ⟨2, ![128, 64]⟩
abbrev S16x128 : Shape := ⟨2, ![16, 128]⟩
abbrev S64x64x16384 : Shape := ⟨3, ![64, 64, 16384]⟩
abbrev S16x16384x64 : Shape := ⟨3, ![16, 16384, 64]⟩
abbrev S16x64x16384 : Shape := ⟨3, ![16, 64, 16384]⟩
abbrev S16384x4096 : Shape := ⟨2, ![16384, 4096]⟩
abbrev S4x64x128 : Shape := ⟨3, ![4, 64, 128]⟩
abbrev S1x16384x64 : Shape := ⟨3, ![1, 16384, 64]⟩
abbrev S1x64x16384 : Shape := ⟨3, ![1, 64, 16384]⟩
abbrev S128x256 : Shape := ⟨2, ![128, 256]⟩
abbrev S64x512 : Shape := ⟨2, ![64, 512]⟩
abbrev S1x64x128 : Shape := ⟨3, ![1, 64, 128]⟩
abbrev S64x128 : Shape := ⟨2, ![64, 128]⟩
abbrev S1x1 : Shape := ⟨2, ![1, 1]⟩
abbrev S8x128 : Shape := ⟨2, ![8, 128]⟩
abbrev S8x512 : Shape := ⟨2, ![8, 512]⟩
abbrev S1x128x64 : Shape := ⟨3, ![1, 128, 64]⟩
abbrev S128x512 : Shape := ⟨2, ![128, 512]⟩
abbrev S16x8x512 : Shape := ⟨3, ![16, 8, 512]⟩
abbrev S512 : Shape := ⟨1, ![512]⟩
abbrev S1x512 : Shape := ⟨2, ![1, 512]⟩
abbrev S256x128 : Shape := ⟨2, ![256, 128]⟩

abbrev nBuf : Space → Nat
  | .hbm => 7
  | .vmem => 9
  | .smem => 3
  | _ => 0

abbrev bufTy : (tb : Table) → Fin (tcTables nBuf tb) → BufTy
  | .hbm, ⟨0, _⟩ => ⟨S128x64, .f32⟩
  | .hbm, ⟨1, _⟩ => ⟨S16x128, .f32⟩
  | .hbm, ⟨2, _⟩ => ⟨S16x128, .f32⟩
  | .hbm, ⟨3, _⟩ => ⟨S64x64x16384, .fp8e4m3⟩
  | .hbm, ⟨4, _⟩ => ⟨S16x16384x64, .fp8e4m3⟩
  | .hbm, ⟨5, _⟩ => ⟨S16x64x16384, .fp8e4m3⟩
  | .hbm, ⟨6, _⟩ => ⟨S16384x4096, .bf16⟩
  | .local _ .vmem, ⟨0, _⟩ => ⟨S4x64x128, .fp8e4m3⟩
  | .local _ .vmem, ⟨1, _⟩ => ⟨S4x64x128, .fp8e4m3⟩
  | .local _ .vmem, ⟨2, _⟩ => ⟨S1x16384x64, .fp8e4m3⟩
  | .local _ .vmem, ⟨3, _⟩ => ⟨S1x16384x64, .fp8e4m3⟩
  | .local _ .vmem, ⟨4, _⟩ => ⟨S1x64x16384, .fp8e4m3⟩
  | .local _ .vmem, ⟨5, _⟩ => ⟨S1x64x16384, .fp8e4m3⟩
  | .local _ .vmem, ⟨6, _⟩ => ⟨S128x256, .bf16⟩
  | .local _ .vmem, ⟨7, _⟩ => ⟨S128x256, .bf16⟩
  | .local _ .vmem, ⟨8, _⟩ => ⟨S64x512, .f32⟩
  | .local _ .smem, ⟨0, _⟩ => ⟨S128x64, .f32⟩
  | .local _ .smem, ⟨1, _⟩ => ⟨S16x128, .f32⟩
  | .local _ .smem, ⟨2, _⟩ => ⟨S16x128, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 128], ![false, false]⟩

def k0_off1 (i : grid0.Coords) (c0_i32 : BitVec 32) : Fin 2 → Nat :=
  let arg1 : BitVec 32 := BitVec.ofNat 32 (i 1).val
  let v11 : Index := Scalar.indexCast arg1
  let arg0 : BitVec 32 := BitVec.ofNat 32 (i 0).val
  let c4_i32 : BitVec 32 := 4#32
  let v9 : BitVec 32 := Scalar.muli arg0 c4_i32
  let v10 : BitVec 32 := Scalar.addi v9 c0_i32
  let v12 : Index := Scalar.indexCast v10
  ![v11.toNat, v12.toNat]
@[reducible] def k0_t1_loop : Scf.Loop 32 :=
  let c0_i32_15 : BitVec 32 := 0#32
  let c32_i32 : BitVec 32 := 32#32
  let v39 : BitVec 32 := Scalar.addi c0_i32_15 c32_i32
  let c1_i32_16 : BitVec 32 := 1#32
  ⟨c0_i32_15, v39, c1_i32_16⟩
def k0_mult1 (k0_t1 : Fin k0_t1_loop.trips) : BitVec 32 :=
  let c0_i32_15 : BitVec 32 := 0#32
  let c1_i32_16 : BitVec 32 := 1#32
  let arg10 : BitVec 32 := Scf.iv c0_i32_15 c1_i32_16 k0_t1
  let c4_i32_41 : BitVec 32 := 4#32
  let v96 : BitVec 32 := Scalar.muli arg10 c4_i32_41
  let c0_i32_42 : BitVec 32 := 0#32
  let v97 : BitVec 32 := Scalar.addi v96 c0_i32_42
  let c128_i32 : BitVec 32 := 128#32
  let v98 : BitVec 32 := Scalar.muli v97 c128_i32
  v98
def k0_off2 (k0_t1 : Fin k0_t1_loop.trips) (c0_i32_42 : BitVec 32) : Fin 3 → Nat :=
  let c0_43 : Index := 0#32
  let c0_i32_15 : BitVec 32 := 0#32
  let c1_i32_16 : BitVec 32 := 1#32
  let arg10 : BitVec 32 := Scf.iv c0_i32_15 c1_i32_16 k0_t1
  let c4_i32_41 : BitVec 32 := 4#32
  let v96 : BitVec 32 := Scalar.muli arg10 c4_i32_41
  let v97 : BitVec 32 := Scalar.addi v96 c0_i32_42
  let c128_i32 : BitVec 32 := 128#32
  let v98 : BitVec 32 := Scalar.muli v97 c128_i32
  let v99 : BitVec 32 := v98
  let v100 : Index := Scalar.indexCast v99
  let c0_44 : Index := 0#32
  ![0, v100.toNat, 0]
def k0_off3 (i : grid0.Coords) (k0_t1 : Fin k0_t1_loop.trips) (c0_i32_42 : BitVec 32) : Fin 2 → Nat :=
  let arg0 : BitVec 32 := BitVec.ofNat 32 (i 0).val
  let v106 : Index := Scalar.indexCast arg0
  let c0_i32_15 : BitVec 32 := 0#32
  let c1_i32_16 : BitVec 32 := 1#32
  let arg10 : BitVec 32 := Scf.iv c0_i32_15 c1_i32_16 k0_t1
  let c4_i32_41 : BitVec 32 := 4#32
  let v96 : BitVec 32 := Scalar.muli arg10 c4_i32_41
  let v97 : BitVec 32 := Scalar.addi v96 c0_i32_42
  let v107 : Index := Scalar.indexCast v97
  ![v106.toNat, v107.toNat]
def k0_mult2 (k0_t1 : Fin k0_t1_loop.trips) : BitVec 32 :=
  let c0_i32_15 : BitVec 32 := 0#32
  let c1_i32_16 : BitVec 32 := 1#32
  let arg10 : BitVec 32 := Scf.iv c0_i32_15 c1_i32_16 k0_t1
  let c4_i32_47 : BitVec 32 := 4#32
  let v113 : BitVec 32 := Scalar.muli arg10 c4_i32_47
  let c1_i32_48 : BitVec 32 := 1#32
  let v114 : BitVec 32 := Scalar.addi v113 c1_i32_48
  let c128_i32_49 : BitVec 32 := 128#32
  let v115 : BitVec 32 := Scalar.muli v114 c128_i32_49
  v115
def k0_mult3 (k0_t1 : Fin k0_t1_loop.trips) : BitVec 32 :=
  let c0_i32_15 : BitVec 32 := 0#32
  let c1_i32_16 : BitVec 32 := 1#32
  let arg10 : BitVec 32 := Scf.iv c0_i32_15 c1_i32_16 k0_t1
  let c4_i32_54 : BitVec 32 := 4#32
  let v130 : BitVec 32 := Scalar.muli arg10 c4_i32_54
  let c2_i32_55 : BitVec 32 := 2#32
  let v131 : BitVec 32 := Scalar.addi v130 c2_i32_55
  let c128_i32_56 : BitVec 32 := 128#32
  let v132 : BitVec 32 := Scalar.muli v131 c128_i32_56
  v132
def k0_mult4 (k0_t1 : Fin k0_t1_loop.trips) : BitVec 32 :=
  let c0_i32_15 : BitVec 32 := 0#32
  let c1_i32_16 : BitVec 32 := 1#32
  let arg10 : BitVec 32 := Scf.iv c0_i32_15 c1_i32_16 k0_t1
  let c4_i32_61 : BitVec 32 := 4#32
  let v147 : BitVec 32 := Scalar.muli arg10 c4_i32_61
  let c3_i32_62 : BitVec 32 := 3#32
  let v148 : BitVec 32 := Scalar.addi v147 c3_i32_62
  let c128_i32_63 : BitVec 32 := 128#32
  let v149 : BitVec 32 := Scalar.muli v148 c128_i32_63
  v149
@[reducible] def k0_t2_loop : Scf.Loop 32 :=
  let c0_i32_32 : BitVec 32 := 0#32
  let c32_i32_33 : BitVec 32 := 32#32
  let v79 : BitVec 32 := Scalar.addi c0_i32_32 c32_i32_33
  let c1_i32_34 : BitVec 32 := 1#32
  ⟨c0_i32_32, v79, c1_i32_34⟩
def k0_off4 (i : grid0.Coords) (k0_t2 : Fin k0_t2_loop.trips) (c0_i32_42 : BitVec 32) : Fin 2 → Nat :=
  let arg0 : BitVec 32 := BitVec.ofNat 32 (i 0).val
  let v98 : Index := Scalar.indexCast arg0
  let c0_i32_32 : BitVec 32 := 0#32
  let c1_i32_34 : BitVec 32 := 1#32
  let arg10 : BitVec 32 := Scf.iv c0_i32_32 c1_i32_34 k0_t2
  let c4_i32_41 : BitVec 32 := 4#32
  let v96 : BitVec 32 := Scalar.muli arg10 c4_i32_41
  let v97 : BitVec 32 := Scalar.addi v96 c0_i32_42
  let v99 : Index := Scalar.indexCast v97
  ![v98.toNat, v99.toNat]
def k0_mult5 (k0_t2 : Fin k0_t2_loop.trips) : BitVec 32 :=
  let c0_i32_32 : BitVec 32 := 0#32
  let c1_i32_34 : BitVec 32 := 1#32
  let arg10 : BitVec 32 := Scf.iv c0_i32_32 c1_i32_34 k0_t2
  let c4_i32_41 : BitVec 32 := 4#32
  let v96 : BitVec 32 := Scalar.muli arg10 c4_i32_41
  let c0_i32_42 : BitVec 32 := 0#32
  let v97 : BitVec 32 := Scalar.addi v96 c0_i32_42
  let c128_i32 : BitVec 32 := 128#32
  let v104 : BitVec 32 := Scalar.muli v97 c128_i32
  v104
def k0_off5 (k0_t2 : Fin k0_t2_loop.trips) (c0_i32_42 : BitVec 32) : Fin 3 → Nat :=
  let c0_43 : Index := 0#32
  let c0_i32_32 : BitVec 32 := 0#32
  let c1_i32_34 : BitVec 32 := 1#32
  let arg10 : BitVec 32 := Scf.iv c0_i32_32 c1_i32_34 k0_t2
  let c4_i32_41 : BitVec 32 := 4#32
  let v96 : BitVec 32 := Scalar.muli arg10 c4_i32_41
  let v97 : BitVec 32 := Scalar.addi v96 c0_i32_42
  let c128_i32 : BitVec 32 := 128#32
  let v104 : BitVec 32 := Scalar.muli v97 c128_i32
  let v105 : BitVec 32 := v104
  let v106 : Index := Scalar.indexCast v105
  let c0_44 : Index := 0#32
  ![0, v106.toNat, 0]
def k0_mult6 (k0_t2 : Fin k0_t2_loop.trips) : BitVec 32 :=
  let c0_i32_32 : BitVec 32 := 0#32
  let c1_i32_34 : BitVec 32 := 1#32
  let arg10 : BitVec 32 := Scf.iv c0_i32_32 c1_i32_34 k0_t2
  let c4_i32_41 : BitVec 32 := 4#32
  let v96 : BitVec 32 := Scalar.muli arg10 c4_i32_41
  let c0_i32_42 : BitVec 32 := 0#32
  let v97 : BitVec 32 := Scalar.addi v96 c0_i32_42
  let c128_i32_49 : BitVec 32 := 128#32
  let v124 : BitVec 32 := Scalar.muli v97 c128_i32_49
  v124
def k0_off6 (k0_t2 : Fin k0_t2_loop.trips) (c0_i32_42 : BitVec 32) : Fin 3 → Nat :=
  let c0_50 : Index := 0#32
  let c0_51 : Index := 0#32
  let c0_i32_32 : BitVec 32 := 0#32
  let c1_i32_34 : BitVec 32 := 1#32
  let arg10 : BitVec 32 := Scf.iv c0_i32_32 c1_i32_34 k0_t2
  let c4_i32_41 : BitVec 32 := 4#32
  let v96 : BitVec 32 := Scalar.muli arg10 c4_i32_41
  let v97 : BitVec 32 := Scalar.addi v96 c0_i32_42
  let c128_i32_49 : BitVec 32 := 128#32
  let v124 : BitVec 32 := Scalar.muli v97 c128_i32_49
  let v125 : BitVec 32 := v124
  let v126 : Index := Scalar.indexCast v125
  ![0, 0, v126.toNat]
def k0_mult7 (k0_t2 : Fin k0_t2_loop.trips) : BitVec 32 :=
  let c0_i32_32 : BitVec 32 := 0#32
  let c1_i32_34 : BitVec 32 := 1#32
  let arg10 : BitVec 32 := Scf.iv c0_i32_32 c1_i32_34 k0_t2
  let c4_i32_57 : BitVec 32 := 4#32
  let v140 : BitVec 32 := Scalar.muli arg10 c4_i32_57
  let c1_i32_58 : BitVec 32 := 1#32
  let v141 : BitVec 32 := Scalar.addi v140 c1_i32_58
  let c128_i32_59 : BitVec 32 := 128#32
  let v148 : BitVec 32 := Scalar.muli v141 c128_i32_59
  v148
def k0_mult8 (k0_t2 : Fin k0_t2_loop.trips) : BitVec 32 :=
  let c0_i32_32 : BitVec 32 := 0#32
  let c1_i32_34 : BitVec 32 := 1#32
  let arg10 : BitVec 32 := Scf.iv c0_i32_32 c1_i32_34 k0_t2
  let c4_i32_57 : BitVec 32 := 4#32
  let v140 : BitVec 32 := Scalar.muli arg10 c4_i32_57
  let c1_i32_58 : BitVec 32 := 1#32
  let v141 : BitVec 32 := Scalar.addi v140 c1_i32_58
  let c128_i32_66 : BitVec 32 := 128#32
  let v168 : BitVec 32 := Scalar.muli v141 c128_i32_66
  v168
def k0_mult9 (k0_t2 : Fin k0_t2_loop.trips) : BitVec 32 :=
  let c0_i32_32 : BitVec 32 := 0#32
  let c1_i32_34 : BitVec 32 := 1#32
  let arg10 : BitVec 32 := Scf.iv c0_i32_32 c1_i32_34 k0_t2
  let c4_i32_74 : BitVec 32 := 4#32
  let v184 : BitVec 32 := Scalar.muli arg10 c4_i32_74
  let c2_i32_75 : BitVec 32 := 2#32
  let v185 : BitVec 32 := Scalar.addi v184 c2_i32_75
  let c128_i32_76 : BitVec 32 := 128#32
  let v192 : BitVec 32 := Scalar.muli v185 c128_i32_76
  v192
def k0_mult10 (k0_t2 : Fin k0_t2_loop.trips) : BitVec 32 :=
  let c0_i32_32 : BitVec 32 := 0#32
  let c1_i32_34 : BitVec 32 := 1#32
  let arg10 : BitVec 32 := Scf.iv c0_i32_32 c1_i32_34 k0_t2
  let c4_i32_74 : BitVec 32 := 4#32
  let v184 : BitVec 32 := Scalar.muli arg10 c4_i32_74
  let c2_i32_75 : BitVec 32 := 2#32
  let v185 : BitVec 32 := Scalar.addi v184 c2_i32_75
  let c128_i32_83 : BitVec 32 := 128#32
  let v212 : BitVec 32 := Scalar.muli v185 c128_i32_83
  v212
def k0_mult11 (k0_t2 : Fin k0_t2_loop.trips) : BitVec 32 :=
  let c0_i32_32 : BitVec 32 := 0#32
  let c1_i32_34 : BitVec 32 := 1#32
  let arg10 : BitVec 32 := Scf.iv c0_i32_32 c1_i32_34 k0_t2
  let c4_i32_91 : BitVec 32 := 4#32
  let v228 : BitVec 32 := Scalar.muli arg10 c4_i32_91
  let c3_i32_92 : BitVec 32 := 3#32
  let v229 : BitVec 32 := Scalar.addi v228 c3_i32_92
  let c128_i32_93 : BitVec 32 := 128#32
  let v236 : BitVec 32 := Scalar.muli v229 c128_i32_93
  v236
def k0_mult12 (k0_t2 : Fin k0_t2_loop.trips) : BitVec 32 :=
  let c0_i32_32 : BitVec 32 := 0#32
  let c1_i32_34 : BitVec 32 := 1#32
  let arg10 : BitVec 32 := Scf.iv c0_i32_32 c1_i32_34 k0_t2
  let c4_i32_91 : BitVec 32 := 4#32
  let v228 : BitVec 32 := Scalar.muli arg10 c4_i32_91
  let c3_i32_92 : BitVec 32 := 3#32
  let v229 : BitVec 32 := Scalar.addi v228 c3_i32_92
  let c128_i32_100 : BitVec 32 := 128#32
  let v256 : BitVec 32 := Scalar.muli v229 c128_i32_100
  v256
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x64x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16384x64 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x16384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S128x64 : Shape := ⟨2, ![128, 64]⟩
abbrev S16x128 : Shape := ⟨2, ![16, 128]⟩
abbrev S64x64x16384 : Shape := ⟨3, ![64, 64, 16384]⟩
abbrev S16x16384x64 : Shape := ⟨3, ![16, 16384, 64]⟩
abbrev S16x64x16384 : Shape := ⟨3, ![16, 64, 16384]⟩
abbrev S64x128 : Shape := ⟨2, ![64, 128]⟩
abbrev S64x128x128 : Shape := ⟨3, ![64, 128, 128]⟩
abbrev S64x16384 : Shape := ⟨2, ![64, 16384]⟩
abbrev S64x1x1x16384 : Shape := ⟨4, ![64, 1, 1, 16384]⟩
abbrev S16x4x128 : Shape := ⟨3, ![16, 4, 128]⟩
abbrev S64x128x1x1 : Shape := ⟨4, ![64, 128, 1, 1]⟩
abbrev S16x4x16384x64 : Shape := ⟨4, ![16, 4, 16384, 64]⟩
abbrev S64x16384x64 : Shape := ⟨3, ![64, 16384, 64]⟩
abbrev S16x4x64x16384 : Shape := ⟨4, ![16, 4, 64, 16384]⟩
abbrev S64x64x128x128 : Shape := ⟨4, ![64, 64, 128, 128]⟩
abbrev S64x128x128x64 : Shape := ⟨4, ![64, 128, 128, 64]⟩
abbrev S8192x128x64 : Shape := ⟨3, ![8192, 128, 64]⟩
abbrev S16384x4096 : Shape := ⟨2, ![16384, 4096]⟩
abbrev S64x16384x16384 : Shape := ⟨3, ![64, 16384, 16384]⟩
abbrev S64x128x128x16384 : Shape := ⟨4, ![64, 128, 128, 16384]⟩
abbrev S64x128x1x16384 : Shape := ⟨4, ![64, 128, 1, 16384]⟩
abbrev S8192x128x16384 : Shape := ⟨3, ![8192, 128, 16384]⟩
abbrev S8192x64x16384 : Shape := ⟨3, ![8192, 64, 16384]⟩
abbrev S64x128x64x16384 : Shape := ⟨4, ![64, 128, 64, 16384]⟩
abbrev S64x1x16384 : Shape := ⟨3, ![64, 1, 16384]⟩
abbrev S4096x16384 : Shape := ⟨2, ![4096, 16384]⟩

abbrev nBuf : Space → Nat
  | .hbm => 24
  | .vmem => 7
  | .smem => 0
  | _ => 0

abbrev bufTy : (tb : Table) → Fin (tcTables nBuf tb) → BufTy
  | .hbm, ⟨0, _⟩ => ⟨S128x64, .f32⟩
  | .hbm, ⟨1, _⟩ => ⟨S16x128, .f32⟩
  | .hbm, ⟨2, _⟩ => ⟨S16x128, .f32⟩
  | .hbm, ⟨3, _⟩ => ⟨S64x64x16384, .fp8e4m3⟩
  | .hbm, ⟨4, _⟩ => ⟨S16x16384x64, .fp8e4m3⟩
  | .hbm, ⟨5, _⟩ => ⟨S16x64x16384, .fp8e4m3⟩
  | .hbm, ⟨6, _⟩ => ⟨S64x128, .f32⟩
  | .hbm, ⟨7, _⟩ => ⟨S64x128x128, .f32⟩
  | .hbm, ⟨8, _⟩ => ⟨S64x16384, .f32⟩
  | .hbm, ⟨9, _⟩ => ⟨S64x1x1x16384, .f32⟩
  | .hbm, ⟨10, _⟩ => ⟨S16x4x128, .f32⟩
  | .hbm, ⟨11, _⟩ => ⟨S64x128, .f32⟩
  | .hbm, ⟨12, _⟩ => ⟨S64x128x1x1, .f32⟩
  | .hbm, ⟨13, _⟩ => ⟨S16x4x128, .f32⟩
  | .hbm, ⟨14, _⟩ => ⟨S64x128, .f32⟩
  | .hbm, ⟨15, _⟩ => ⟨S64x128x1x1, .f32⟩
  | .hbm, ⟨16, _⟩ => ⟨S16x4x16384x64, .fp8e4m3⟩
  | .hbm, ⟨17, _⟩ => ⟨S64x16384x64, .fp8e4m3⟩
  | .hbm, ⟨18, _⟩ => ⟨S16x4x64x16384, .fp8e4m3⟩
  | .hbm, ⟨19, _⟩ => ⟨S64x64x16384, .fp8e4m3⟩
  | .hbm, ⟨20, _⟩ => ⟨S64x64x128x128, .fp8e4m3⟩
  | .hbm, ⟨21, _⟩ => ⟨S64x128x128x64, .fp8e4m3⟩
  | .hbm, ⟨22, _⟩ => ⟨S8192x128x64, .fp8e4m3⟩
  | .hbm, ⟨23, _⟩ => ⟨S16384x4096, .bf16⟩
  | .local _ .vmem, ⟨0, _⟩ => ⟨S64x1x1x16384, .f32⟩
  | .local _ .vmem, ⟨1, _⟩ => ⟨S64x128x1x1, .f32⟩
  | .local _ .vmem, ⟨2, _⟩ => ⟨S64x128x1x1, .f32⟩
  | .local _ .vmem, ⟨3, _⟩ => ⟨S64x64x16384, .fp8e4m3⟩
  | .local _ .vmem, ⟨4, _⟩ => ⟨S64x16384x64, .fp8e4m3⟩
  | .local _ .vmem, ⟨5, _⟩ => ⟨S8192x128x64, .fp8e4m3⟩
  | .local _ .vmem, ⟨6, _⟩ => ⟨S16384x4096, .bf16⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S64x1x1x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64x16384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16384x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x128x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Algebra.lean ====
/- The mathematics of one row of attention over the extended reals, free of any program: what the kernel's two passes
   over the keys compute, and why it is what the textbook softmax with a quantised probability computes. -/
module

public import Idealize.ShloMosaic.PureOps.Ideal
public import Idealize.ShloMosaic.Lib.IdealHost

@[expose] public section

noncomputable section

namespace Cert.Attn

open Idealize.ShloMosaic

/-- The base-two logarithm of `e`, the value of the named constant. -/
def L2 : EReal := (((Real.log 2)⁻¹ : ℝ) : EReal)

/-- The exponent of the power-of-two scale of a row whose largest entry is `a`. -/
def expo (a : EReal) : BitVec 32 :=
  Scalar.select (Ideal.cmp .oeq a 0) 0#32
    (IntOp.addi (Ideal.fptosi 32 (Ideal.liftRound Int.floor (Ideal.log (a * Ideal.ofBits .f32 0x3B124925#32) * L2))) 1#32)

/-- A power of two given by its integer exponent. -/
def pow2 (e : BitVec 32) : EReal := Ideal.exp2 ((e.toInt : ℝ) : EReal)

theorem log2_pos : 0 < Real.log 2 := Real.log_pos one_lt_two

/-- The logarithm of a power of two, times the base-two logarithm of `e`, is the exponent. -/
theorem log_pow2 (e : BitVec 32) : Ideal.log (pow2 e) * L2 = ((e.toInt : ℝ) : EReal) := by
  have h2 : (0 : ℝ) < (2 : ℝ) ^ (e.toInt : ℝ) := Real.rpow_pos_of_pos two_pos _
  have : ¬ Real.rpow 2 (e.toInt : ℝ) ≤ 0 := not_le.mpr h2
  rw [pow2, Ideal.exp2_coe, Ideal.log_coe, if_neg this, L2, ← EReal.coe_mul]
  congr 1
  show Real.log ((2 : ℝ) ^ (e.toInt : ℝ)) * (Real.log 2)⁻¹ = _
  rw [Real.log_rpow two_pos, mul_assoc, mul_inv_cancel₀ log2_pos.ne', mul_one]

/-- `exp` in base two, with the row's maximum and the power of two folded into one subtracted term, is the exponential of
    the difference times the power of two: at every extended real. -/
theorem exp2_shift (s M : EReal) (e : BitVec 32) :
    Ideal.exp2 (s * L2 - (M * L2 - Ideal.log (pow2 e) * L2)) = Ideal.exp (s - M) * pow2 e := by
  rw [log_pow2]
  have hc : (0 : ℝ) < (Real.log 2)⁻¹ := inv_pos.mpr log2_pos
  have h2 : (0 : ℝ) < Real.rpow 2 (e.toInt : ℝ) := Real.rpow_pos_of_pos two_pos _
  have hp : pow2 e = ((Real.rpow 2 (e.toInt : ℝ) : ℝ) : EReal) := rfl
  rw [hp]
  unfold L2
  induction s with
  | bot => rw [EReal.bot_mul_coe_of_pos hc, EReal.bot_sub, EReal.bot_sub, Ideal.exp2_bot, Ideal.exp_bot, zero_mul]
  | top =>
    rw [EReal.top_mul_coe_of_pos hc]
    induction M with
    | bot =>
      rw [EReal.bot_mul_coe_of_pos hc, EReal.bot_sub, EReal.top_sub_bot]
      rw [Ideal.exp2_top, Ideal.exp_top, EReal.top_mul_coe_of_pos h2]
    | top =>
      rw [EReal.top_mul_coe_of_pos hc, EReal.top_sub_coe]
      simp
    | coe M =>
      rw [← EReal.coe_mul, ← EReal.coe_sub, EReal.top_sub_coe, EReal.top_sub_coe]
      rw [Ideal.exp2_top, Ideal.exp_top, EReal.top_mul_coe_of_pos h2]
  | coe s =>
    induction M with
    | bot =>
      rw [EReal.bot_mul_coe_of_pos hc, EReal.bot_sub, ← EReal.coe_mul, EReal.coe_sub_bot, EReal.coe_sub_bot]
      rw [Ideal.exp2_top, Ideal.exp_top, EReal.top_mul_coe_of_pos h2]
    | top =>
      rw [EReal.top_mul_coe_of_pos hc, EReal.top_sub_coe, EReal.sub_top, EReal.sub_top]
      simp
    | coe M =>
      rw [← EReal.coe_mul, ← EReal.coe_mul, ← EReal.coe_sub, ← EReal.coe_sub, ← EReal.coe_sub, Ideal.exp2_coe,
        Ideal.exp_coe, ← EReal.coe_mul]
      congr 1
      show (2 : ℝ) ^ (_ : ℝ) = Real.exp (s - M) * (2 : ℝ) ^ (_ : ℝ)
      rw [Real.rpow_def_of_pos two_pos, Real.rpow_def_of_pos two_pos, ← Real.exp_add]
      congr 1
      have := log2_pos.ne'
      field_simp
      ring

/-- Every exponential is nonnegative. -/
theorem exp_nonneg (x : EReal) : 0 ≤ Ideal.exp x := by
  induction x with
  | bot => simp
  | top => simp
  | coe r => rw [Ideal.exp_coe]; exact EReal.coe_nonneg.mpr (Real.exp_pos r).le

/-- The exponential is monotone. -/
theorem exp_mono : Monotone Ideal.exp := by
  intro x y h
  induction x with
  | bot => rw [Ideal.exp_bot]; exact exp_nonneg y
  | top => rw [top_le_iff.mp h]
  | coe r =>
    induction y with
    | bot => simp at h
    | top => simp
    | coe u => rw [Ideal.exp_coe, Ideal.exp_coe]; exact EReal.coe_le_coe_iff.mpr (Real.exp_le_exp.mpr (EReal.coe_le_coe_iff.mp h))

/-- The exponential of a number less itself is one, or zero at an infinity. -/
theorem exp_self (x : EReal) : Ideal.exp (x - x) = 1 ∨ Ideal.exp (x - x) = 0 := by
  induction x with
  | bot => right; simp
  | top => right; simp
  | coe r => left; rw [← EReal.coe_sub, sub_self, EReal.coe_zero, ← EReal.coe_zero, Ideal.exp_coe]; simp

/-- The real value of the constant `1 / 448` in binary32. -/
theorem inv448 : ∃ c : ℝ, Ideal.ofBits .f32 0x3B124925#32 = (c : EReal) ∧ (1 / 512 : ℝ) ≤ c ∧ c < 1 := by
  refine ⟨9586981 * (2 ^ 32)⁻¹, ?_, by norm_num, by norm_num⟩
  simp [Ideal.ofBits, Ideal.ieee]

/-- The exponent of a row's scale lies between -8 and 0. -/
theorem expo_range (x : EReal) : ∃ k : ℤ, -8 ≤ k ∧ k ≤ 0 ∧ expo (Ideal.exp (x - x)) = BitVec.ofInt 32 k := by
  rcases exp_self x with h | h
  · obtain ⟨c, hc, hc1, hc2⟩ := inv448
    have hc0 : 0 < c := by linarith
    rw [h, expo, one_mul, hc, Ideal.log_coe, if_neg (not_le.mpr hc0), L2, ← EReal.coe_mul, Ideal.liftRound_coe]
    set r := Real.log c * (Real.log 2)⁻¹ with hr
    have h1 : ⌊r⌋ ≤ -1 := by
      have : r < 0 := mul_neg_of_neg_of_pos (Real.log_neg hc0 hc2) (inv_pos.mpr log2_pos)
      have := (Int.floor_lt (a := r) (z := 0)).mpr (by simpa using this)
      omega
    have h2 : -9 ≤ ⌊r⌋ := by
      rw [Int.le_floor, hr, ← div_eq_mul_inv, le_div_iff₀ log2_pos]
      have : Real.log (1 / 512) ≤ Real.log c := Real.log_le_log (by norm_num) hc1
      have h5 : Real.log (1 / 512) = (-9 : ℝ) * Real.log 2 := by
        rw [show (1 / 512 : ℝ) = ((2 : ℝ) ^ 9)⁻¹ by norm_num, Real.log_inv, Real.log_pow]; push_cast; ring
      push_cast; linarith
    refine ⟨⌊r⌋ + 1, by omega, by omega, ?_⟩
    have hcmp : Ideal.cmp .oeq (1 : EReal) 0 = 0#1 := by simp [Ideal.cmp]
    rw [hcmp]
    have hcl : Ideal.fptosi 32 (((⌊r⌋ : ℝ) : EReal)) = BitVec.ofInt 32 ⌊r⌋ := by
      unfold Ideal.fptosi
      congr 1
      show max _ (min _ (if (0 : ℝ) ≤ (⌊r⌋ : ℝ) then ⌊(⌊r⌋ : ℝ)⌋ else ⌈(⌊r⌋ : ℝ)⌉)) = _
      rw [Int.floor_intCast, Int.ceil_intCast, ite_self]
      norm_num
      omega
    rw [hcl]
    generalize ⌊r⌋ = k at h1 h2
    interval_cases k <;> rfl
  · refine ⟨0, by omega, by omega, ?_⟩
    rw [h, expo]
    have hcmp : Ideal.cmp .oeq (0 : EReal) 0 = 1#1 := by simp [Ideal.cmp]
    rw [hcmp]; rfl

/-- The two powers of two of a row's scale are each other's inverse. -/
theorem pow2_inv (x : EReal) :
    pow2 (IntOp.subi 0#32 (expo (Ideal.exp (x - x)))) * pow2 (expo (Ideal.exp (x - x))) = 1 := by
  obtain ⟨k, h1, h2, h⟩ := expo_range x
  rw [h]
  have h3 : (IntOp.subi 0#32 (BitVec.ofInt 32 k)).toInt = -k := by interval_cases k <;> rfl
  have h4 : (BitVec.ofInt 32 k).toInt = k := by interval_cases k <;> rfl
  unfold pow2
  rw [h3, h4, Ideal.exp2_coe, Ideal.exp2_coe, ← EReal.coe_mul, ← EReal.coe_one]
  congr 1
  show (2 : ℝ) ^ (_ : ℝ) * (2 : ℝ) ^ (_ : ℝ) = 1
  rw [← Real.rpow_add two_pos]; push_cast; simp

/-- A sum of nonnegative numbers, each scaled by `w`, scaled back by its inverse, is the sum itself. -/
theorem sum_scaled {ι : Type*} (S : Finset ι) (P : ι → EReal) (hP : ∀ i, 0 ≤ P i) (w u : EReal) (h : w * u = 1) :
    (∑ i ∈ S, P i * w) * u = ∑ i ∈ S, P i := by
  have h0 : ∀ T : Finset ι, (∑ i ∈ T, P i) * w = ∑ i ∈ T, P i * w := by
    classical
    intro T
    induction T using Finset.induction_on with
    | empty => simp
    | insert a T ha ih =>
      rw [Finset.sum_insert ha, Finset.sum_insert ha,
        EReal.right_distrib_of_nonneg (hP a) (Finset.sum_nonneg fun i _ => hP i), ih]
  rw [← h0, mul_assoc, h, mul_one]

/-- The largest absolute value of the exponentials of a row less its maximum is the exponential of the maximum less itself. -/
theorem sup_abs_exp {ι : Type*} (T : Finset ι) (hT : T.Nonempty) (S : ι → EReal) :
    T.sup (fun i => max (Ideal.exp (S i - T.sup S)) (-(Ideal.exp (S i - T.sup S)))) = Ideal.exp (T.sup S - T.sup S) := by
  have hab : ∀ x : EReal, max (Ideal.exp x) (-(Ideal.exp x)) = Ideal.exp x := fun x =>
    max_eq_left (le_trans (by rw [EReal.neg_le, neg_zero]; exact exp_nonneg x) (exp_nonneg x))
  simp only [hab]
  obtain ⟨i, hi, hS⟩ := Finset.exists_mem_eq_sup T hT S
  apply le_antisymm
  · exact Finset.sup_le fun j hj => exp_mono (EReal.sub_le_sub (Finset.le_sup hj) le_rfl)
  · conv_lhs => rw [hS]
    rw [← hS]
    have := Finset.le_sup (f := fun i => Ideal.exp (S i - T.sup S)) hi
    beta_reduce at this
    rw [← hS] at this
    exact this

/-- The largest of a grid of scores: the kernel takes, in each tile, the largest product over the keys sharing a sublane,
    scales it by the tile's nonnegative factor, and takes the largest over the tiles and then over the sublanes. -/
theorem sup_tiles (A : Fin 128 → Fin 128 → EReal) (k : Fin 128 → EReal) (hk : ∀ n, 0 ≤ k n) :
    (Finset.univ.sup fun s : Fin 8 => Finset.univ.sup fun n : Fin 128 =>
        (Finset.univ.sup fun r : Fin 16 => A n ⟨8 * r.val + s.val, by omega⟩) * k n)
      = Finset.univ.sup fun i : Fin 128 × Fin 128 => A i.1 i.2 * k i.1 := by
  apply le_antisymm
  · refine Finset.sup_le fun s _ => Finset.sup_le fun n _ => ?_
    obtain ⟨r, _, hr⟩ := Finset.exists_mem_eq_sup (Finset.univ : Finset (Fin 16)) Finset.univ_nonempty
      (fun r : Fin 16 => A n ⟨8 * r.val + s.val, by omega⟩)
    rw [hr]
    exact Finset.le_sup (f := fun i : Fin 128 × Fin 128 => A i.1 i.2 * k i.1)
      (Finset.mem_univ (n, (⟨8 * r.val + s.val, by omega⟩ : Fin 128)))
  · refine Finset.sup_le fun i _ => ?_
    obtain ⟨n, t⟩ := i
    have h1 := Finset.le_sup (f := fun r : Fin 16 => A n ⟨8 * r.val + t.val % 8, by omega⟩)
      (Finset.mem_univ (⟨t.val / 8, by omega⟩ : Fin 16))
    have ht : (⟨8 * (t.val / 8) + t.val % 8, by omega⟩ : Fin 128) = t := Fin.ext (Nat.div_add_mod t.val 8)
    beta_reduce at h1
    rw [ht] at h1
    refine le_trans (mul_le_mul_of_nonneg_right h1 (hk n)) ?_
    refine le_trans ?_ (Finset.le_sup (f := fun s : Fin 8 => Finset.univ.sup fun n : Fin 128 =>
        (Finset.univ.sup fun r : Fin 16 => A n ⟨8 * r.val + s.val, by omega⟩) * k n)
        (Finset.mem_univ (⟨t.val % 8, by omega⟩ : Fin 8)))
    exact Finset.le_sup (f := fun n : Fin 128 => (Finset.univ.sup fun r : Fin 16 => A n ⟨8 * r.val + t.val % 8, by omega⟩) * k n)
      (Finset.mem_univ n)

/-- A sum over a grid of keys, taken by sublane, then tile, then group of eight, is the sum over tiles and keys. -/
theorem sum_tiles (P : Fin 128 → Fin 128 → EReal) :
    (∑ s : Fin 8, ∑ n : Fin 128, ∑ r : Fin 16, P n ⟨8 * r.val + s.val, by omega⟩)
      = ∑ i : Fin 128 × Fin 128, P i.1 i.2 := by
  rw [Finset.sum_comm, Fintype.sum_prod_type]
  refine Finset.sum_congr rfl fun n _ => ?_
  rw [Finset.sum_comm, ← Fintype.sum_prod_type (f := fun i : Fin 16 × Fin 8 => P n ⟨8 * i.1.val + i.2.val, by omega⟩)]
  refine Fintype.sum_bijective (fun i : Fin 16 × Fin 8 => (⟨8 * i.1.val + i.2.val, by omega⟩ : Fin 128)) ?_ _ _ fun _ => rfl
  constructor
  · rintro ⟨a, b⟩ ⟨a', b'⟩ h
    have := congrArg Fin.val h
    simp only at this
    refine Prod.ext (Fin.ext ?_) (Fin.ext ?_) <;> simp only <;> omega
  · intro t
    exact ⟨(⟨t.val / 8, by omega⟩, ⟨t.val % 8, by omega⟩), Fin.ext (Nat.div_add_mod t.val 8)⟩

/-- The scaled score's exponential as the kernel forms it is the textbook probability times the power of two. -/
theorem prob (a q k M : EReal) (e : BitVec 32) :
    Ideal.exp2 (a * ((q * L2) * k) - (M * L2 - Ideal.log (pow2 e) * L2)) = Ideal.exp (a * (q * k) - M) * pow2 e := by
  rw [← exp2_shift, show a * ((q * L2) * k) = a * (q * k) * L2 by rw [mul_right_comm q, ← mul_assoc a]]

/-- A running maximum that takes four tiles a step, for thirty-two steps from the least value, is the largest tile. -/
theorem sup_trips (B : Fin 128 → EReal) (a : ℕ → EReal) (h0 : a 0 = ⊥)
    (hs : ∀ k (hk : k < 32), a (k + 1) = max (max (max (max (a k) (B ⟨4 * k, by omega⟩)) (B ⟨4 * k + 1, by omega⟩))
      (B ⟨4 * k + 2, by omega⟩)) (B ⟨4 * k + 3, by omega⟩)) : a 32 = Finset.univ.sup B := by
  have key : ∀ k, k ≤ 32 → a k = (Finset.range (4 * k)).sup fun n => if h : n < 128 then B ⟨n, h⟩ else ⊥ := by
    intro k
    induction k with
    | zero => intro _; rw [h0]; rfl
    | succ k ih =>
      intro hk
      rw [hs k (by omega), ih (by omega), show 4 * (k + 1) = 4 * k + 1 + 1 + 1 + 1 by ring]
      simp only [Finset.range_add_one, Finset.sup_insert]
      rw [dif_pos (by omega), dif_pos (by omega), dif_pos (by omega), dif_pos (by omega)]
      generalize (Finset.range (4 * k)).sup (_ : ℕ → EReal) = S
      ac_rfl
  rw [key 32 le_rfl]
  apply le_antisymm
  · refine Finset.sup_le fun n hn => ?_
    rw [dif_pos (by simpa using hn)]
    exact Finset.le_sup (Finset.mem_univ _)
  · refine Finset.sup_le fun n _ => ?_
    refine le_trans (le_of_eq ?_) (Finset.le_sup (f := fun n => if h : n < 128 then B ⟨n, h⟩ else ⊥) (b := n.val) (by simp))
    simp

/-- A running sum that adds four tiles a step, for thirty-two steps from zero, is the sum over the tiles. -/
theorem sum_trips (B : Fin 128 → EReal) (a : ℕ → EReal) (h0 : a 0 = 0)
    (hs : ∀ k (hk : k < 32), a (k + 1) = a k + B ⟨4 * k, by omega⟩ + B ⟨4 * k + 1, by omega⟩ + B ⟨4 * k + 2, by omega⟩
      + B ⟨4 * k + 3, by omega⟩) : a 32 = ∑ n, B n := by
  have key : ∀ k, k ≤ 32 → a k = ∑ n ∈ Finset.range (4 * k), if h : n < 128 then B ⟨n, h⟩ else 0 := by
    intro k
    induction k with
    | zero => intro _; rw [h0]; rfl
    | succ k ih =>
      intro hk
      rw [hs k (by omega), ih (by omega), show 4 * (k + 1) = 4 * k + 1 + 1 + 1 + 1 by ring]
      simp only [Finset.sum_range_succ]
      rw [dif_pos (by omega), dif_pos (by omega), dif_pos (by omega), dif_pos (by omega)]
  rw [key 32 le_rfl, Finset.sum_range]
  exact Finset.sum_congr rfl fun n _ => dif_pos n.isLt

/-- The constant a maximum starts from. -/
theorem ofBits_neg_inf : Ideal.ofBits .f32 4286578688#32 = ⊥ := by simp [Ideal.ofBits, Ideal.ieee]

/-- One eighth, the factor of a query's scale, is not negative. -/
theorem ofBits_eighth_nonneg : 0 ≤ Ideal.ofBits .f32 1040187392#32 := by
  simp [Ideal.ofBits, Ideal.ieee]
  exact mul_nonneg (EReal.coe_nonneg.mpr (by positivity)) (EReal.coe_nonneg.mpr (by positivity))

/-- One entry of the textbook result: the inner products `A` of a query with the keys (tile, row), the query's scale `q`, the
    tiles' key scales `k` and value scales `vs`, and one column `v` of the value codes. Softmax with the maximum subtracted;
    the probabilities scaled by a power of two and clipped to the eight-bit range before they meet the values. -/
def row (A : Fin 128 → Fin 128 → EReal) (q : EReal) (k vs : Fin 128 → EReal) (v : Fin 128 → Fin 128 → EReal) : EReal :=
  let M := Finset.univ.sup fun i : Fin 128 × Fin 128 => A i.1 i.2 * (q * k i.1)
  let P := fun n t => Ideal.exp (A n t * (q * k n) - M)
  let e := expo (Finset.univ.sup fun i : Fin 128 × Fin 128 => max (P i.1 i.2) (-(P i.1 i.2)))
  (∑ n, (∑ t, v n t * min (Ideal.ofBits .f32 1138753536#32) (max (Ideal.ofBits .f32 3286237184#32)
      (P n t * pow2 (IntOp.subi 0#32 e)))) * vs n)
    * Ideal.div (pow2 e) (∑ i : Fin 128 × Fin 128, P i.1 i.2)

/-- The largest score as the kernel finds it: by sublane, then tile, then group of eight rows. -/
def kM (A : Fin 128 → Fin 128 → EReal) (q : EReal) (k : Fin 128 → EReal) : EReal :=
  Finset.univ.sup fun s : Fin 8 => Finset.univ.sup fun n : Fin 128 =>
    (Finset.univ.sup fun r : Fin 16 => A n ⟨8 * r.val + s.val, by omega⟩) * (q * k n)

/-- The exponent of the row's scale as the kernel finds it, from the maximum alone. -/
def kE (A : Fin 128 → Fin 128 → EReal) (q : EReal) (k : Fin 128 → EReal) : BitVec 32 :=
  expo (Ideal.exp (kM A q k - kM A q k))

/-- A probability as the kernel forms it: a base-two exponential, its power of two inside the subtracted term. -/
def kP (A : Fin 128 → Fin 128 → EReal) (q : EReal) (k : Fin 128 → EReal) (n t : Fin 128) : EReal :=
  Ideal.exp2 (A n t * ((q * L2) * k n) - (kM A q k * L2 - Ideal.log (pow2 (IntOp.subi 0#32 (kE A q k))) * L2))

/-- One entry of the kernel's result. -/
def krow (A : Fin 128 → Fin 128 → EReal) (q : EReal) (k vs : Fin 128 → EReal) (v : Fin 128 → Fin 128 → EReal) : EReal :=
  (∑ n, (∑ t, v n t * min (Ideal.ofBits .f32 1138753536#32) (max (Ideal.ofBits .f32 3286237184#32) (kP A q k n t))) * vs n)
    * Ideal.div (pow2 (kE A q k)) ((∑ s : Fin 8, ∑ n : Fin 128, ∑ r : Fin 16, kP A q k n ⟨8 * r.val + s.val, by omega⟩)
      * pow2 (kE A q k))

/-- With nonnegative scales the kernel's entry is the textbook's. -/
theorem krow_eq (A : Fin 128 → Fin 128 → EReal) (q : EReal) (k vs : Fin 128 → EReal) (v : Fin 128 → Fin 128 → EReal)
    (hk : ∀ n, 0 ≤ q * k n) : krow A q k vs v = row A q k vs v := by
  have hM : kM A q k = Finset.univ.sup fun i : Fin 128 × Fin 128 => A i.1 i.2 * (q * k i.1) := sup_tiles A (fun n => q * k n) hk
  have hP : ∀ n t, kP A q k n t = Ideal.exp (A n t * (q * k n) - kM A q k) * pow2 (IntOp.subi 0#32 (kE A q k)) :=
    fun n t => prob _ _ _ _ _
  have hE : kE A q k = expo (Finset.univ.sup fun i : Fin 128 × Fin 128 =>
      max (Ideal.exp (A i.1 i.2 * (q * k i.1) - kM A q k)) (-(Ideal.exp (A i.1 i.2 * (q * k i.1) - kM A q k)))) := by
    unfold kE
    rw [hM]
    exact congrArg expo (sup_abs_exp Finset.univ Finset.univ_nonempty fun i : Fin 128 × Fin 128 => A i.1 i.2 * (q * k i.1)).symm
  have hsum : (∑ s : Fin 8, ∑ n : Fin 128, ∑ r : Fin 16, kP A q k n ⟨8 * r.val + s.val, by omega⟩) * pow2 (kE A q k)
      = ∑ i : Fin 128 × Fin 128, Ideal.exp (A i.1 i.2 * (q * k i.1) - kM A q k) := by
    rw [sum_tiles (kP A q k)]
    simp only [hP]
    exact sum_scaled _ _ (fun _ => exp_nonneg _) _ _ (pow2_inv _)
  unfold krow row
  rw [hsum]
  simp only [hP]
  rw [← hM, ← hE]

/-- One element of the attention's result, over the codes and the scales as the host holds them: query `q`, column `z`
(head `z / 64`, coordinate `z % 64`). -/
def entry (qs : Fin 128 → Fin 64 → EReal) (ks vs : Fin 16 → Fin 128 → EReal) (qt : Fin 64 → Fin 64 → Fin 16384 → EReal)
    (kh : Fin 16 → Fin 16384 → Fin 64 → EReal) (vt : Fin 16 → Fin 64 → Fin 16384 → EReal) (q : Fin 16384) (z : Fin 4096) : EReal :=
  row (fun n t => ∑ d : Fin 64, kh ⟨z.val / 256, by omega⟩ ⟨128 * n.val + t.val, by omega⟩ d * qt ⟨z.val / 64, by omega⟩ d q)
    (qs ⟨q.val / 128, by omega⟩ ⟨z.val / 64, by omega⟩ * Ideal.ofBits .f32 1040187392#32)
    (ks ⟨z.val / 256, by omega⟩) (vs ⟨z.val / 256, by omega⟩)
    (fun n t => vt ⟨z.val / 256, by omega⟩ ⟨z.val % 64, by omega⟩ ⟨128 * n.val + t.val, by omega⟩)

end Cert.Attn

end
-- ==== Proof.KernelTrip.lean ====
/- What one trip of each of the kernel's two loops over the keys computes, entry by entry. -/
module

public import proofs.«01_k».proof.Proof.Gen.KernelIdeal.Value
public import proofs.«01_k».proof.Proof.Algebra
public import Idealize.ShloMosaic.Lib.Pipeline.ValueKit
public import Idealize.ShloMosaic.Lib.Pipeline.Covers
public import Idealize.ShloMosaic.Lib.Pointwise
public import Idealize.ShloMosaic.Lib.WritesUnit

@[expose] public section

set_option maxRecDepth 16384

noncomputable section

namespace Cert.KernelIdeal.Hand

open Idealize.ShloMosaic Idealize.ShloMosaic.TcCoe Idealize.ShloMosaic.Tactic
open Cert.KernelIdeal.Gen

/-- The inner product of a key (tile `n`, row `t` of it) with the query in column `l`. -/
def kscore (x4 : Vec Ideal S1x16384x64 .fp8e4m3) (v8 : FVec Ideal S64x512 .fp8e4m3) (n t : Fin 128) (l : Fin 512) : EReal :=
  ∑ d : Fin 64, x4 (ix3 0 ⟨128 * n.val + t.val, by omega⟩ d) * v8 (ix2 d l)

/-- The largest inner product over the keys of tile `n` sharing sublane `s`. -/
def kmax (x4 : Vec Ideal S1x16384x64 .fp8e4m3) (v8 : FVec Ideal S64x512 .fp8e4m3) (n : Fin 128) (s : Fin 8) (l : Fin 512) : EReal :=
  Finset.univ.sup fun r : Fin 16 => kscore x4 v8 n ⟨8 * r.val + s.val, by omega⟩ l

/-- The probability of a key, scaled by the row's power of two, as the second loop forms it. -/
def kprob (x1 : Vec Ideal S16x128 .f32) (x4 : Vec Ideal S1x16384x64 .fp8e4m3) (v8 : FVec Ideal S64x512 .fp8e4m3)
    (v71 v73 : FVec Ideal S8x512 .f32) (h : Fin 16) (n t : Fin 128) (l : Fin 512) : EReal :=
  Ideal.exp2 (kscore x4 v8 n t l * (v73 (ix2 0 l) * x1 (ix2 h n)) - v71 (ix2 0 l))

/-- A tile's values against its clipped probabilities, times the tile's value scale. -/
def kpv (x1 x2 : Vec Ideal S16x128 .f32) (x4 : Vec Ideal S1x16384x64 .fp8e4m3) (x5 : Vec Ideal S1x64x16384 .fp8e4m3)
    (v8 : FVec Ideal S64x512 .fp8e4m3) (v71 v73 : FVec Ideal S8x512 .f32) (h : Fin 16) (n : Fin 128) (d : Fin 64) (l : Fin 512) : EReal :=
  (∑ t : Fin 128, x5 (ix3 0 d ⟨128 * n.val + t.val, by omega⟩) *
    min (Ideal.ofBits .f32 1138753536#32) (max (Ideal.ofBits .f32 3286237184#32) (kprob x1 x4 v8 v71 v73 h n t l))) * x2 (ix2 h n)

/-- A head's column of the grid is one of sixteen. -/
abbrev head (i : grid0.Coords) : Fin 16 := ⟨(i 0).val, (i 0).isLt⟩

theorem t1_lt (k : Fin k0_t1_loop.trips) : k.val < 32 := k.isLt
theorem t2_lt (k : Fin k0_t2_loop.trips) : k.val < 32 := k.isLt

theorem scale_eq (x : Vec Ideal S16x128 .f32) (h : Fin 16) (n : Fin 128) (p : Fin 16) (q : Fin 128) (hp : p.val = h.val)
    (hq : q.val = n.val) : x (ix2 p q) = x (ix2 h n) := by
  rw [show p = h from Fin.ext hp, show q = n from Fin.ext hq]

set_option maxHeartbeats 1000000 in
/-- One trip of the first loop: the running maximum takes in the four tiles of the trip. -/
theorem trip1_apply (𝒱 : Variants) (c : Dev nD) (bd : Option 𝒱.V) (i : grid0.Coords) (arg2 : Memref sig .tc .smem S128x64 .f32) (harg2 : arg2.IsWhole) (arg3 : Memref sig .tc .smem S16x128 .f32) (harg3 : arg3.IsWhole) (arg4 : Memref sig .tc .smem S16x128 .f32) (harg4 : arg4.IsWhole) (arg5 : Memref sig .tc .vmem S4x64x128 .fp8e4m3) (harg5 : arg5.IsWhole) (arg6 : Memref sig .tc .vmem S1x16384x64 .fp8e4m3) (harg6 : arg6.IsWhole) (arg7 : Memref sig .tc .vmem S1x64x16384 .fp8e4m3) (harg7 : arg7.IsWhole) (arg8 : Memref sig .tc .vmem S128x256 .bf16) (harg8 : arg8.IsWhole) (arg9 : Memref sig .tc .vmem S64x512 .f32) (harg9 : arg9.IsWhole) (arg0 : BitVec 32) (v8 : FVec Ideal S64x512 .fp8e4m3) (v15 v22 v29 : FVec Ideal S8x128 .f32) (v34 : Elt Ideal .f32) (x1 : Vec Ideal S16x128 .f32) (x4 : Vec Ideal S1x16384x64 .fp8e4m3)
    (k : Fin k0_t1_loop.trips) (acc : FVec Ideal S8x512 .f32) (s : Fin 8) (l : Fin 512) :
    have hk := t1_lt k
    tripR_k0_t1 (F := Ideal) 𝒱 c bd i arg2 harg2 arg3 harg3 arg4 harg4 arg5 harg5 arg6 harg6 arg7 harg7 arg8 harg8 arg9 harg9 arg0 v8 v15 v22 v29 v34 (harg3.unread x1) (harg6.unread x4) k acc (ix2 s l)
      = max (max (max (max (acc (ix2 s l))
          (kmax x4 v8 ⟨4 * k.val, by omega⟩ s l * (k0_pay25 v15 v22 v29 v34 (ix2 s l) * x1 (ix2 (head i) ⟨4 * k.val, by omega⟩))))
          (kmax x4 v8 ⟨4 * k.val + 1, by omega⟩ s l * (k0_pay25 v15 v22 v29 v34 (ix2 s l) * x1 (ix2 (head i) ⟨4 * k.val + 1, by omega⟩))))
          (kmax x4 v8 ⟨4 * k.val + 2, by omega⟩ s l * (k0_pay25 v15 v22 v29 v34 (ix2 s l) * x1 (ix2 (head i) ⟨4 * k.val + 2, by omega⟩))))
          (kmax x4 v8 ⟨4 * k.val + 3, by omega⟩ s l * (k0_pay25 v15 v22 v29 v34 (ix2 s l) * x1 (ix2 (head i) ⟨4 * k.val + 3, by omega⟩))) := by
  intro hk
  unfold tripR_k0_t1 trip_k0_t1
  frame_out
  pointwise [k0_pay27]
  have o0 : k0_off2 k 0#32 = ![0, 512 * k.val + 128 * 0, 0] := k0_off2_eq k 0
  have q0 : k0_off3 i k 0#32 = ![(i 0).val, 4 * k.val + 0] := k0_off3_eq i k 0
  have o1 : k0_off2 k 1#32 = ![0, 512 * k.val + 128 * 1, 0] := k0_off2_eq k 1
  have q1 : k0_off3 i k 1#32 = ![(i 0).val, 4 * k.val + 1] := k0_off3_eq i k 1
  have o2 : k0_off2 k 2#32 = ![0, 512 * k.val + 128 * 2, 0] := k0_off2_eq k 2
  have q2 : k0_off3 i k 2#32 = ![(i 0).val, 4 * k.val + 2] := k0_off3_eq i k 2
  have o3 : k0_off2 k 3#32 = ![0, 512 * k.val + 128 * 3, 0] := k0_off2_eq k 3
  have q3 : k0_off3 i k 3#32 = ![(i 0).val, 4 * k.val + 3] := k0_off3_eq i k 3
  refine congrArg₂ max (congrArg₂ max (congrArg₂ max (congrArg₂ max rfl ?_) ?_) ?_) ?_
  · refine congrArg₂ (· * ·) ?_ (congrArg _ (scale_eq x1 (head i) ⟨4 * k.val, by omega⟩ _ _ (by simp [q0]) (by simp [q0])))
    rw [Cert.Attn.ofBits_neg_inf]
    show Finset.univ.sup _ = _
    unfold kmax
    congr 1
    funext r
    unfold kscore
    refine Finset.sum_congr rfl fun d _ => congrArg₂ (· * ·) (congrArg x4 (funext fun a => Fin.ext ?_)) rfl
    match a with
    | ⟨0, _⟩ => show k0_off2 k 0#32 0 = 0; rw [o0]; rfl
    | ⟨1, _⟩ => show k0_off2 k 0#32 1 + (r.val * 8 + s.val) = 128 * (4 * k.val + 0) + (8 * r.val + s.val); rw [o0]; show 512 * k.val + 128 * 0 + (r.val * 8 + s.val) = _; omega
    | ⟨2, _⟩ => show k0_off2 k 0#32 2 + d.val = d.val; rw [o0]; exact Nat.zero_add _
  · refine congrArg₂ (· * ·) ?_ (congrArg _ (scale_eq x1 (head i) ⟨4 * k.val + 1, by omega⟩ _ _ (by simp [q1]) (by simp [q1])))
    rw [Cert.Attn.ofBits_neg_inf]
    show Finset.univ.sup _ = _
    unfold kmax
    congr 1
    funext r
    unfold kscore
    refine Finset.sum_congr rfl fun d _ => congrArg₂ (· * ·) (congrArg x4 (funext fun a => Fin.ext ?_)) rfl
    match a with
    | ⟨0, _⟩ => show k0_off2 k 1#32 0 = 0; rw [o1]; rfl
    | ⟨1, _⟩ => show k0_off2 k 1#32 1 + (r.val * 8 + s.val) = 128 * (4 * k.val + 1) + (8 * r.val + s.val); rw [o1]; show 512 * k.val + 128 * 1 + (r.val * 8 + s.val) = _; omega
    | ⟨2, _⟩ => show k0_off2 k 1#32 2 + d.val = d.val; rw [o1]; exact Nat.zero_add _
  · refine congrArg₂ (· * ·) ?_ (congrArg _ (scale_eq x1 (head i) ⟨4 * k.val + 2, by omega⟩ _ _ (by simp [q2]) (by simp [q2])))
    rw [Cert.Attn.ofBits_neg_inf]
    show Finset.univ.sup _ = _
    unfold kmax
    congr 1
    funext r
    unfold kscore
    refine Finset.sum_congr rfl fun d _ => congrArg₂ (· * ·) (congrArg x4 (funext fun a => Fin.ext ?_)) rfl
    match a with
    | ⟨0, _⟩ => show k0_off2 k 2#32 0 = 0; rw [o2]; rfl
    | ⟨1, _⟩ => show k0_off2 k 2#32 1 + (r.val * 8 + s.val) = 128 * (4 * k.val + 2) + (8 * r.val + s.val); rw [o2]; show 512 * k.val + 128 * 2 + (r.val * 8 + s.val) = _; omega
    | ⟨2, _⟩ => show k0_off2 k 2#32 2 + d.val = d.val; rw [o2]; exact Nat.zero_add _
  · refine congrArg₂ (· * ·) ?_ (congrArg _ (scale_eq x1 (head i) ⟨4 * k.val + 3, by omega⟩ _ _ (by simp [q3]) (by simp [q3])))
    rw [Cert.Attn.ofBits_neg_inf]
    show Finset.univ.sup _ = _
    unfold kmax
    congr 1
    funext r
    unfold kscore
    refine Finset.sum_congr rfl fun d _ => congrArg₂ (· * ·) (congrArg x4 (funext fun a => Fin.ext ?_)) rfl
    match a with
    | ⟨0, _⟩ => show k0_off2 k 3#32 0 = 0; rw [o3]; rfl
    | ⟨1, _⟩ => show k0_off2 k 3#32 1 + (r.val * 8 + s.val) = 128 * (4 * k.val + 3) + (8 * r.val + s.val); rw [o3]; show 512 * k.val + 128 * 3 + (r.val * 8 + s.val) = _; omega
    | ⟨2, _⟩ => show k0_off2 k 3#32 2 + d.val = d.val; rw [o3]; exact Nat.zero_add _

set_option maxHeartbeats 1000000 in
/-- One trip of the second loop: the running sum of each sublane takes in the four tiles of the trip. -/
theorem trip2_apply (𝒱 : Variants) (c : Dev nD) (bd : Option 𝒱.V) (i : grid0.Coords) (arg2 : Memref sig .tc .smem S128x64 .f32) (harg2 : arg2.IsWhole) (arg3 : Memref sig .tc .smem S16x128 .f32) (harg3 : arg3.IsWhole) (arg4 : Memref sig .tc .smem S16x128 .f32) (harg4 : arg4.IsWhole) (arg5 : Memref sig .tc .vmem S4x64x128 .fp8e4m3) (harg5 : arg5.IsWhole) (arg6 : Memref sig .tc .vmem S1x16384x64 .fp8e4m3) (harg6 : arg6.IsWhole) (arg7 : Memref sig .tc .vmem S1x64x16384 .fp8e4m3) (harg7 : arg7.IsWhole) (arg8 : Memref sig .tc .vmem S128x256 .bf16) (harg8 : arg8.IsWhole) (arg9 : Memref sig .tc .vmem S64x512 .f32) (harg9 : arg9.IsWhole) (arg0 : BitVec 32) (v8 : FVec Ideal S64x512 .fp8e4m3) (v71 v73 : FVec Ideal S8x512 .f32) (x1 x2 : Vec Ideal S16x128 .f32) (x4 : Vec Ideal S1x16384x64 .fp8e4m3) (x5 : Vec Ideal S1x64x16384 .fp8e4m3)
    (k : Fin k0_t2_loop.trips) (acc : FVec Ideal S8x512 .f32) (f : BufTy.Contents (Elt Ideal) arg9.view.ty) (s : Fin 8) (l : Fin 512) :
    have hk := t2_lt k
    tripR_k0_t2 (F := Ideal) 𝒱 c bd i arg2 harg2 arg3 harg3 arg4 harg4 arg5 harg5 arg6 harg6 arg7 harg7 arg8 harg8 arg9 harg9 arg0 v8 v71 v73 (harg3.unread x1) (harg4.unread x2) (harg6.unread x4) (harg7.unread x5) k acc f (ix2 s l)
      = acc (ix2 s l)
        + (∑ r : Fin 16, kprob x1 x4 v8 v71 v73 (head i) ⟨4 * k.val, by omega⟩ ⟨8 * r.val + s.val, by omega⟩ l)
        + (∑ r : Fin 16, kprob x1 x4 v8 v71 v73 (head i) ⟨4 * k.val + 1, by omega⟩ ⟨8 * r.val + s.val, by omega⟩ l)
        + (∑ r : Fin 16, kprob x1 x4 v8 v71 v73 (head i) ⟨4 * k.val + 2, by omega⟩ ⟨8 * r.val + s.val, by omega⟩ l)
        + (∑ r : Fin 16, kprob x1 x4 v8 v71 v73 (head i) ⟨4 * k.val + 3, by omega⟩ ⟨8 * r.val + s.val, by omega⟩ l) := by
  intro hk
  unfold tripR_k0_t2 trip_k0_t2
  frame_out
  pointwise [k0_pay7, k0_pay11, k0_pay15, k0_pay19]
  have o0 : k0_off5 k 0#32 = ![0, 512 * k.val + 128 * 0, 0] := k0_off5_eq k 0
  have q0 : k0_off4 i k 0#32 = ![(i 0).val, 4 * k.val + 0] := k0_off4_eq i k 0
  have o1 : k0_off5 k 1#32 = ![0, 512 * k.val + 128 * 1, 0] := k0_off5_eq k 1
  have q1 : k0_off4 i k 1#32 = ![(i 0).val, 4 * k.val + 1] := k0_off4_eq i k 1
  have o2 : k0_off5 k 2#32 = ![0, 512 * k.val + 128 * 2, 0] := k0_off5_eq k 2
  have q2 : k0_off4 i k 2#32 = ![(i 0).val, 4 * k.val + 2] := k0_off4_eq i k 2
  have o3 : k0_off5 k 3#32 = ![0, 512 * k.val + 128 * 3, 0] := k0_off5_eq k 3
  have q3 : k0_off4 i k 3#32 = ![(i 0).val, 4 * k.val + 3] := k0_off4_eq i k 3
  refine congrArg₂ (· + ·) (congrArg₂ (· + ·) (congrArg₂ (· + ·) (congrArg₂ (· + ·) rfl ?_) ?_) ?_) ?_
  · refine Finset.sum_congr rfl fun r _ => ?_
    unfold kprob
    refine congrArg Ideal.exp2 (congrArg₂ (· - ·) (congrArg₂ (· * ·) ?_ (congrArg _ (scale_eq x1 (head i) ⟨4 * k.val, by omega⟩ _ _ (by simp [q0]) (by simp [q0])))) rfl)
    unfold kscore
    refine Finset.sum_congr rfl fun d _ => congrArg₂ (· * ·) (congrArg x4 (funext fun a => Fin.ext ?_)) rfl
    match a with
    | ⟨0, _⟩ => show k0_off5 k 0#32 0 = 0; rw [o0]; rfl
    | ⟨1, _⟩ => show k0_off5 k 0#32 1 + (r.val * 8 + s.val) = 128 * (4 * k.val + 0) + (8 * r.val + s.val); rw [o0]; show 512 * k.val + 128 * 0 + (r.val * 8 + s.val) = _; omega
    | ⟨2, _⟩ => show k0_off5 k 0#32 2 + d.val = d.val; rw [o0]; exact Nat.zero_add _
  · refine Finset.sum_congr rfl fun r _ => ?_
    unfold kprob
    refine congrArg Ideal.exp2 (congrArg₂ (· - ·) (congrArg₂ (· * ·) ?_ (congrArg _ (scale_eq x1 (head i) ⟨4 * k.val + 1, by omega⟩ _ _ (by simp [q1]) (by simp [q1])))) rfl)
    unfold kscore
    refine Finset.sum_congr rfl fun d _ => congrArg₂ (· * ·) (congrArg x4 (funext fun a => Fin.ext ?_)) rfl
    match a with
    | ⟨0, _⟩ => show k0_off5 k 1#32 0 = 0; rw [o1]; rfl
    | ⟨1, _⟩ => show k0_off5 k 1#32 1 + (r.val * 8 + s.val) = 128 * (4 * k.val + 1) + (8 * r.val + s.val); rw [o1]; show 512 * k.val + 128 * 1 + (r.val * 8 + s.val) = _; omega
    | ⟨2, _⟩ => show k0_off5 k 1#32 2 + d.val = d.val; rw [o1]; exact Nat.zero_add _
  · refine Finset.sum_congr rfl fun r _ => ?_
    unfold kprob
    refine congrArg Ideal.exp2 (congrArg₂ (· - ·) (congrArg₂ (· * ·) ?_ (congrArg _ (scale_eq x1 (head i) ⟨4 * k.val + 2, by omega⟩ _ _ (by simp [q2]) (by simp [q2])))) rfl)
    unfold kscore
    refine Finset.sum_congr rfl fun d _ => congrArg₂ (· * ·) (congrArg x4 (funext fun a => Fin.ext ?_)) rfl
    match a with
    | ⟨0, _⟩ => show k0_off5 k 2#32 0 = 0; rw [o2]; rfl
    | ⟨1, _⟩ => show k0_off5 k 2#32 1 + (r.val * 8 + s.val) = 128 * (4 * k.val + 2) + (8 * r.val + s.val); rw [o2]; show 512 * k.val + 128 * 2 + (r.val * 8 + s.val) = _; omega
    | ⟨2, _⟩ => show k0_off5 k 2#32 2 + d.val = d.val; rw [o2]; exact Nat.zero_add _
  · refine Finset.sum_congr rfl fun r _ => ?_
    unfold kprob
    refine congrArg Ideal.exp2 (congrArg₂ (· - ·) (congrArg₂ (· * ·) ?_ (congrArg _ (scale_eq x1 (head i) ⟨4 * k.val + 3, by omega⟩ _ _ (by simp [q3]) (by simp [q3])))) rfl)
    unfold kscore
    refine Finset.sum_congr rfl fun d _ => congrArg₂ (· * ·) (congrArg x4 (funext fun a => Fin.ext ?_)) rfl
    match a with
    | ⟨0, _⟩ => show k0_off5 k 3#32 0 = 0; rw [o3]; rfl
    | ⟨1, _⟩ => show k0_off5 k 3#32 1 + (r.val * 8 + s.val) = 128 * (4 * k.val + 3) + (8 * r.val + s.val); rw [o3]; show 512 * k.val + 128 * 3 + (r.val * 8 + s.val) = _; omega
    | ⟨2, _⟩ => show k0_off5 k 3#32 2 + d.val = d.val; rw [o3]; exact Nat.zero_add _

set_option maxHeartbeats 1000000 in
/-- One trip of the second loop: the accumulator's contents take in the four tiles of the trip. -/
theorem trip2L_apply (𝒱 : Variants) (c : Dev nD) (bd : Option 𝒱.V) (i : grid0.Coords) (arg2 : Memref sig .tc .smem S128x64 .f32) (harg2 : arg2.IsWhole) (arg3 : Memref sig .tc .smem S16x128 .f32) (harg3 : arg3.IsWhole) (arg4 : Memref sig .tc .smem S16x128 .f32) (harg4 : arg4.IsWhole) (arg5 : Memref sig .tc .vmem S4x64x128 .fp8e4m3) (harg5 : arg5.IsWhole) (arg6 : Memref sig .tc .vmem S1x16384x64 .fp8e4m3) (harg6 : arg6.IsWhole) (arg7 : Memref sig .tc .vmem S1x64x16384 .fp8e4m3) (harg7 : arg7.IsWhole) (arg8 : Memref sig .tc .vmem S128x256 .bf16) (harg8 : arg8.IsWhole) (arg9 : Memref sig .tc .vmem S64x512 .f32) (harg9 : arg9.IsWhole) (arg0 : BitVec 32) (v8 : FVec Ideal S64x512 .fp8e4m3) (v71 v73 : FVec Ideal S8x512 .f32) (x1 x2 : Vec Ideal S16x128 .f32) (x4 : Vec Ideal S1x16384x64 .fp8e4m3) (x5 : Vec Ideal S1x64x16384 .fp8e4m3)
    (k : Fin k0_t2_loop.trips) (acc : FVec Ideal S8x512 .f32) (f : BufTy.Contents (Elt Ideal) arg9.view.ty) (d : Fin 64) (l : Fin 512) :
    have hk := t2_lt k
    View.read (Elt Ideal) arg9.view (arg9.view.writes (Elt Ideal) f (tripL_k0_t2 (F := Ideal) 𝒱 c bd i arg2 harg2 arg3 harg3 arg4 harg4 arg5 harg5 arg6 harg6 arg7 harg7 arg8 harg8 arg9 harg9 arg0 v8 v71 v73 (harg3.unread x1) (harg4.unread x2) (harg6.unread x4) (harg7.unread x5) k acc f)) (ix2 d l)
      = View.read (Elt Ideal) arg9.view f (ix2 d l)
        + kpv x1 x2 x4 x5 v8 v71 v73 (head i) ⟨4 * k.val, by omega⟩ d l
        + kpv x1 x2 x4 x5 v8 v71 v73 (head i) ⟨4 * k.val + 1, by omega⟩ d l
        + kpv x1 x2 x4 x5 v8 v71 v73 (head i) ⟨4 * k.val + 2, by omega⟩ d l
        + kpv x1 x2 x4 x5 v8 v71 v73 (head i) ⟨4 * k.val + 3, by omega⟩ d l := by
  intro hk
  unfold tripL_k0_t2 trip_k0_t2
  frame_out
  refine (View.read_writes_cons_unit_of_mem _ _ _ _ _ (ix2 d l) (ix2 d l) rfl (fun a => ?_)).trans ?_
  · match a with
    | ⟨0, _⟩ => simp
    | ⟨1, _⟩ => simp
  rw [k0_pay3, shapeCast_self]
  pointwise
  have o0 : k0_off5 k 0#32 = ![0, 512 * k.val + 128 * 0, 0] := k0_off5_eq k 0
  have q0 : k0_off4 i k 0#32 = ![(i 0).val, 4 * k.val + 0] := k0_off4_eq i k 0
  have o1 : k0_off5 k 1#32 = ![0, 512 * k.val + 128 * 1, 0] := k0_off5_eq k 1
  have q1 : k0_off4 i k 1#32 = ![(i 0).val, 4 * k.val + 1] := k0_off4_eq i k 1
  have o2 : k0_off5 k 2#32 = ![0, 512 * k.val + 128 * 2, 0] := k0_off5_eq k 2
  have q2 : k0_off4 i k 2#32 = ![(i 0).val, 4 * k.val + 2] := k0_off4_eq i k 2
  have o3 : k0_off5 k 3#32 = ![0, 512 * k.val + 128 * 3, 0] := k0_off5_eq k 3
  have q3 : k0_off4 i k 3#32 = ![(i 0).val, 4 * k.val + 3] := k0_off4_eq i k 3
  have p0 : k0_off6 k 0#32 = ![0, 0, 512 * k.val + 128 * 0] := k0_off6_eq k 0
  have p1 : k0_off6 k 1#32 = ![0, 0, 512 * k.val + 128 * 1] := k0_off6_eq k 1
  have p2 : k0_off6 k 2#32 = ![0, 0, 512 * k.val + 128 * 2] := k0_off6_eq k 2
  have p3 : k0_off6 k 3#32 = ![0, 0, 512 * k.val + 128 * 3] := k0_off6_eq k 3
  refine congrArg₂ (· + ·) (congrArg₂ (· + ·) (congrArg₂ (· + ·) (congrArg₂ (· + ·) ?_ ?_) ?_) ?_) ?_
  · rfl
  · unfold kpv kprob
    refine congrArg₂ (· * ·) (Finset.sum_congr rfl fun t _ => congrArg₂ (· * ·) (congrArg x5 (funext fun a => Fin.ext ?_)) (congrArg (min _) (congrArg (max _) ?_))) (scale_eq x2 (head i) ⟨4 * k.val, by omega⟩ _ _ (by simp [q0]) (by simp [q0]))
    · match a with
      | ⟨0, _⟩ => show k0_off6 k 0#32 0 = 0; rw [p0]; rfl
      | ⟨1, _⟩ => show k0_off6 k 0#32 1 + d.val = d.val; rw [p0]; exact Nat.zero_add _
      | ⟨2, _⟩ => show k0_off6 k 0#32 2 + t.val = 128 * (4 * k.val + 0) + t.val; rw [p0]; show 512 * k.val + 128 * 0 + t.val = _; omega
    refine congrArg Ideal.exp2 (congrArg₂ (· - ·) (congrArg₂ (· * ·) ?_ (congrArg _ (scale_eq x1 (head i) ⟨4 * k.val, by omega⟩ _ _ (by simp [q0]) (by simp [q0])))) rfl)
    unfold kscore
    refine Finset.sum_congr rfl fun d _ => congrArg₂ (· * ·) (congrArg x4 (funext fun a => Fin.ext ?_)) rfl
    match a with
    | ⟨0, _⟩ => show k0_off5 k 0#32 0 = 0; rw [o0]; rfl
    | ⟨1, _⟩ => show k0_off5 k 0#32 1 + t.val = 128 * (4 * k.val + 0) + t.val; rw [o0]; show 512 * k.val + 128 * 0 + t.val = _; omega
    | ⟨2, _⟩ => show k0_off5 k 0#32 2 + d.val = d.val; rw [o0]; exact Nat.zero_add _
  · unfold kpv kprob
    refine congrArg₂ (· * ·) (Finset.sum_congr rfl fun t _ => congrArg₂ (· * ·) (congrArg x5 (funext fun a => Fin.ext ?_)) (congrArg (min _) (congrArg (max _) ?_))) (scale_eq x2 (head i) ⟨4 * k.val + 1, by omega⟩ _ _ (by simp [q1]) (by simp [q1]))
    · match a with
      | ⟨0, _⟩ => show k0_off6 k 1#32 0 = 0; rw [p1]; rfl
      | ⟨1, _⟩ => show k0_off6 k 1#32 1 + d.val = d.val; rw [p1]; exact Nat.zero_add _
      | ⟨2, _⟩ => show k0_off6 k 1#32 2 + t.val = 128 * (4 * k.val + 1) + t.val; rw [p1]; show 512 * k.val + 128 * 1 + t.val = _; omega
    refine congrArg Ideal.exp2 (congrArg₂ (· - ·) (congrArg₂ (· * ·) ?_ (congrArg _ (scale_eq x1 (head i) ⟨4 * k.val + 1, by omega⟩ _ _ (by simp [q1]) (by simp [q1])))) rfl)
    unfold kscore
    refine Finset.sum_congr rfl fun d _ => congrArg₂ (· * ·) (congrArg x4 (funext fun a => Fin.ext ?_)) rfl
    match a with
    | ⟨0, _⟩ => show k0_off5 k 1#32 0 = 0; rw [o1]; rfl
    | ⟨1, _⟩ => show k0_off5 k 1#32 1 + t.val = 128 * (4 * k.val + 1) + t.val; rw [o1]; show 512 * k.val + 128 * 1 + t.val = _; omega
    | ⟨2, _⟩ => show k0_off5 k 1#32 2 + d.val = d.val; rw [o1]; exact Nat.zero_add _
  · unfold kpv kprob
    refine congrArg₂ (· * ·) (Finset.sum_congr rfl fun t _ => congrArg₂ (· * ·) (congrArg x5 (funext fun a => Fin.ext ?_)) (congrArg (min _) (congrArg (max _) ?_))) (scale_eq x2 (head i) ⟨4 * k.val + 2, by omega⟩ _ _ (by simp [q2]) (by simp [q2]))
    · match a with
      | ⟨0, _⟩ => show k0_off6 k 2#32 0 = 0; rw [p2]; rfl
      | ⟨1, _⟩ => show k0_off6 k 2#32 1 + d.val = d.val; rw [p2]; exact Nat.zero_add _
      | ⟨2, _⟩ => show k0_off6 k 2#32 2 + t.val = 128 * (4 * k.val + 2) + t.val; rw [p2]; show 512 * k.val + 128 * 2 + t.val = _; omega
    refine congrArg Ideal.exp2 (congrArg₂ (· - ·) (congrArg₂ (· * ·) ?_ (congrArg _ (scale_eq x1 (head i) ⟨4 * k.val + 2, by omega⟩ _ _ (by simp [q2]) (by simp [q2])))) rfl)
    unfold kscore
    refine Finset.sum_congr rfl fun d _ => congrArg₂ (· * ·) (congrArg x4 (funext fun a => Fin.ext ?_)) rfl
    match a with
    | ⟨0, _⟩ => show k0_off5 k 2#32 0 = 0; rw [o2]; rfl
    | ⟨1, _⟩ => show k0_off5 k 2#32 1 + t.val = 128 * (4 * k.val + 2) + t.val; rw [o2]; show 512 * k.val + 128 * 2 + t.val = _; omega
    | ⟨2, _⟩ => show k0_off5 k 2#32 2 + d.val = d.val; rw [o2]; exact Nat.zero_add _
  · unfold kpv kprob
    refine congrArg₂ (· * ·) (Finset.sum_congr rfl fun t _ => congrArg₂ (· * ·) (congrArg x5 (funext fun a => Fin.ext ?_)) (congrArg (min _) (congrArg (max _) ?_))) (scale_eq x2 (head i) ⟨4 * k.val + 3, by omega⟩ _ _ (by simp [q3]) (by simp [q3]))
    · match a with
      | ⟨0, _⟩ => show k0_off6 k 3#32 0 = 0; rw [p3]; rfl
      | ⟨1, _⟩ => show k0_off6 k 3#32 1 + d.val = d.val; rw [p3]; exact Nat.zero_add _
      | ⟨2, _⟩ => show k0_off6 k 3#32 2 + t.val = 128 * (4 * k.val + 3) + t.val; rw [p3]; show 512 * k.val + 128 * 3 + t.val = _; omega
    refine congrArg Ideal.exp2 (congrArg₂ (· - ·) (congrArg₂ (· * ·) ?_ (congrArg _ (scale_eq x1 (head i) ⟨4 * k.val + 3, by omega⟩ _ _ (by simp [q3]) (by simp [q3])))) rfl)
    unfold kscore
    refine Finset.sum_congr rfl fun d _ => congrArg₂ (· * ·) (congrArg x4 (funext fun a => Fin.ext ?_)) rfl
    match a with
    | ⟨0, _⟩ => show k0_off5 k 3#32 0 = 0; rw [o3]; rfl
    | ⟨1, _⟩ => show k0_off5 k 3#32 1 + t.val = 128 * (4 * k.val + 3) + t.val; rw [o3]; show 512 * k.val + 128 * 3 + t.val = _; omega
    | ⟨2, _⟩ => show k0_off5 k 3#32 2 + d.val = d.val; rw [o3]; exact Nat.zero_add _

end Cert.KernelIdeal.Hand
-- ==== Proof.KernelLoop.lean ====
/- What the kernel's two loops over the keys leave, and from them one output block, entry by entry. -/
module

public import proofs.«01_k».proof.Proof.KernelTrip

@[expose] public section

set_option maxRecDepth 16384

noncomputable section

namespace Cert.KernelIdeal.Hand

open Idealize.ShloMosaic Idealize.ShloMosaic.TcCoe Idealize.ShloMosaic.Tactic
open Cert.KernelIdeal.Gen

/-- The first loop leaves, by sublane, the largest scaled score over the tiles. -/
theorem loop1_apply (𝒱 : Variants) (c : Dev nD) (bd : Option 𝒱.V) (i : grid0.Coords) (arg2 : Memref sig .tc .smem S128x64 .f32) (harg2 : arg2.IsWhole) (arg3 : Memref sig .tc .smem S16x128 .f32) (harg3 : arg3.IsWhole) (arg4 : Memref sig .tc .smem S16x128 .f32) (harg4 : arg4.IsWhole) (arg5 : Memref sig .tc .vmem S4x64x128 .fp8e4m3) (harg5 : arg5.IsWhole) (arg6 : Memref sig .tc .vmem S1x16384x64 .fp8e4m3) (harg6 : arg6.IsWhole) (arg7 : Memref sig .tc .vmem S1x64x16384 .fp8e4m3) (harg7 : arg7.IsWhole) (arg8 : Memref sig .tc .vmem S128x256 .bf16) (harg8 : arg8.IsWhole) (arg9 : Memref sig .tc .vmem S64x512 .f32) (harg9 : arg9.IsWhole) (arg0 : BitVec 32) (v8 : FVec Ideal S64x512 .fp8e4m3) (v15 v22 v29 : FVec Ideal S8x128 .f32) (v34 : Elt Ideal .f32) (x1 : Vec Ideal S16x128 .f32) (x4 : Vec Ideal S1x16384x64 .fp8e4m3) (s : Fin 8) (l : Fin 512) :
    st_k0_t1 (F := Ideal) 𝒱 c bd i arg2 harg2 arg3 harg3 arg4 harg4 arg5 harg5 arg6 harg6 arg7 harg7 arg8 harg8 arg9 harg9 arg0 v8 v15 v22 v29 v34 (harg3.unread x1) (harg6.unread x4) k0_pay26 32 (ix2 s l)
      = Finset.univ.sup fun n : Fin 128 => kmax x4 v8 n s l * (k0_pay25 v15 v22 v29 v34 (ix2 s l) * x1 (ix2 (head i) n)) := by
  refine Cert.Attn.sup_trips (fun n => kmax x4 v8 n s l * (k0_pay25 v15 v22 v29 v34 (ix2 s l) * x1 (ix2 (head i) n)))
    (fun k => st_k0_t1 (F := Ideal) 𝒱 c bd i arg2 harg2 arg3 harg3 arg4 harg4 arg5 harg5 arg6 harg6 arg7 harg7 arg8 harg8 arg9 harg9 arg0 v8 v15 v22 v29 v34 (harg3.unread x1) (harg6.unread x4) k0_pay26 k (ix2 s l)) ?_ fun k hk => ?_
  · exact Cert.Attn.ofBits_neg_inf
  · exact (congrFun (st_k0_t1_succ (F := Ideal) 𝒱 c bd i arg2 harg2 arg3 harg3 arg4 harg4 arg5 harg5 arg6 harg6 arg7 harg7 arg8 harg8 arg9 harg9 arg0 v8 v15 v22 v29 v34 (harg3.unread x1) (harg6.unread x4) k0_pay26 ⟨k, hk⟩) (ix2 s l)).trans
      (trip1_apply 𝒱 c bd i arg2 harg2 arg3 harg3 arg4 harg4 arg5 harg5 arg6 harg6 arg7 harg7 arg8 harg8 arg9 harg9 arg0 v8 v15 v22 v29 v34 x1 x4 ⟨k, hk⟩ _ s l)

/-- The second loop leaves, by sublane, the sum of the probabilities over the tiles. -/
theorem loop2_apply (𝒱 : Variants) (c : Dev nD) (bd : Option 𝒱.V) (i : grid0.Coords) (arg2 : Memref sig .tc .smem S128x64 .f32) (harg2 : arg2.IsWhole) (arg3 : Memref sig .tc .smem S16x128 .f32) (harg3 : arg3.IsWhole) (arg4 : Memref sig .tc .smem S16x128 .f32) (harg4 : arg4.IsWhole) (arg5 : Memref sig .tc .vmem S4x64x128 .fp8e4m3) (harg5 : arg5.IsWhole) (arg6 : Memref sig .tc .vmem S1x16384x64 .fp8e4m3) (harg6 : arg6.IsWhole) (arg7 : Memref sig .tc .vmem S1x64x16384 .fp8e4m3) (harg7 : arg7.IsWhole) (arg8 : Memref sig .tc .vmem S128x256 .bf16) (harg8 : arg8.IsWhole) (arg9 : Memref sig .tc .vmem S64x512 .f32) (harg9 : arg9.IsWhole) (arg0 : BitVec 32) (v8 : FVec Ideal S64x512 .fp8e4m3) (v71 v73 : FVec Ideal S8x512 .f32) (x1 x2 : Vec Ideal S16x128 .f32) (x4 : Vec Ideal S1x16384x64 .fp8e4m3) (x5 : Vec Ideal S1x64x16384 .fp8e4m3) (f : BufTy.Contents (Elt Ideal) arg9.view.ty) (s : Fin 8) (l : Fin 512) :
    (st_k0_t2 (F := Ideal) 𝒱 c bd i arg2 harg2 arg3 harg3 arg4 harg4 arg5 harg5 arg6 harg6 arg7 harg7 arg8 harg8 arg9 harg9 arg0 v8 v71 v73 (harg3.unread x1) (harg4.unread x2) (harg6.unread x4) (harg7.unread x5) f k0_pay2 32).1 (ix2 s l)
      = ∑ n : Fin 128, ∑ r : Fin 16, kprob x1 x4 v8 v71 v73 (head i) n ⟨8 * r.val + s.val, by omega⟩ l := by
  refine Cert.Attn.sum_trips (fun n => ∑ r : Fin 16, kprob x1 x4 v8 v71 v73 (head i) n ⟨8 * r.val + s.val, by omega⟩ l)
    (fun k => (st_k0_t2 (F := Ideal) 𝒱 c bd i arg2 harg2 arg3 harg3 arg4 harg4 arg5 harg5 arg6 harg6 arg7 harg7 arg8 harg8 arg9 harg9 arg0 v8 v71 v73 (harg3.unread x1) (harg4.unread x2) (harg6.unread x4) (harg7.unread x5) f k0_pay2 k).1 (ix2 s l)) ?_ fun k hk => ?_
  · exact Ideal.ofBits_zero_f32
  · exact (congrFun (congrArg Prod.fst (st_k0_t2_succ (F := Ideal) 𝒱 c bd i arg2 harg2 arg3 harg3 arg4 harg4 arg5 harg5 arg6 harg6 arg7 harg7 arg8 harg8 arg9 harg9 arg0 v8 v71 v73 (harg3.unread x1) (harg4.unread x2) (harg6.unread x4) (harg7.unread x5) f k0_pay2 ⟨k, hk⟩)) (ix2 s l)).trans
      (trip2_apply 𝒱 c bd i arg2 harg2 arg3 harg3 arg4 harg4 arg5 harg5 arg6 harg6 arg7 harg7 arg8 harg8 arg9 harg9 arg0 v8 v71 v73 x1 x2 x4 x5 ⟨k, hk⟩ _ _ s l)

/-- The second loop leaves, in an accumulator it found at zero, the values against the clipped probabilities over the tiles. -/
theorem loop2L_apply (𝒱 : Variants) (c : Dev nD) (bd : Option 𝒱.V) (i : grid0.Coords) (arg2 : Memref sig .tc .smem S128x64 .f32) (harg2 : arg2.IsWhole) (arg3 : Memref sig .tc .smem S16x128 .f32) (harg3 : arg3.IsWhole) (arg4 : Memref sig .tc .smem S16x128 .f32) (harg4 : arg4.IsWhole) (arg5 : Memref sig .tc .vmem S4x64x128 .fp8e4m3) (harg5 : arg5.IsWhole) (arg6 : Memref sig .tc .vmem S1x16384x64 .fp8e4m3) (harg6 : arg6.IsWhole) (arg7 : Memref sig .tc .vmem S1x64x16384 .fp8e4m3) (harg7 : arg7.IsWhole) (arg8 : Memref sig .tc .vmem S128x256 .bf16) (harg8 : arg8.IsWhole) (arg9 : Memref sig .tc .vmem S64x512 .f32) (harg9 : arg9.IsWhole) (arg0 : BitVec 32) (v8 : FVec Ideal S64x512 .fp8e4m3) (v71 v73 : FVec Ideal S8x512 .f32) (x1 x2 : Vec Ideal S16x128 .f32) (x4 : Vec Ideal S1x16384x64 .fp8e4m3) (x5 : Vec Ideal S1x64x16384 .fp8e4m3) (f : BufTy.Contents (Elt Ideal) arg9.view.ty) (d : Fin 64) (l : Fin 512)
    (h0 : View.read (Elt Ideal) arg9.view f (ix2 d l) = (0 : EReal)) :
    View.read (Elt Ideal) arg9.view (arg9.view.writes (Elt Ideal) f (st_k0_t2 (F := Ideal) 𝒱 c bd i arg2 harg2 arg3 harg3 arg4 harg4 arg5 harg5 arg6 harg6 arg7 harg7 arg8 harg8 arg9 harg9 arg0 v8 v71 v73 (harg3.unread x1) (harg4.unread x2) (harg6.unread x4) (harg7.unread x5) f k0_pay2 32).2) (ix2 d l)
      = ∑ n : Fin 128, kpv x1 x2 x4 x5 v8 v71 v73 (head i) n d l := by
  refine Cert.Attn.sum_trips (fun n => kpv x1 x2 x4 x5 v8 v71 v73 (head i) n d l)
    (fun k => View.read (Elt Ideal) arg9.view (arg9.view.writes (Elt Ideal) f (st_k0_t2 (F := Ideal) 𝒱 c bd i arg2 harg2 arg3 harg3 arg4 harg4 arg5 harg5 arg6 harg6 arg7 harg7 arg8 harg8 arg9 harg9 arg0 v8 v71 v73 (harg3.unread x1) (harg4.unread x2) (harg6.unread x4) (harg7.unread x5) f k0_pay2 k).2) (ix2 d l)) ?_ fun k hk => ?_
  · exact h0
  · have e := congrArg Prod.snd (st_k0_t2_succ (F := Ideal) 𝒱 c bd i arg2 harg2 arg3 harg3 arg4 harg4 arg5 harg5 arg6 harg6 arg7 harg7 arg8 harg8 arg9 harg9 arg0 v8 v71 v73 (harg3.unread x1) (harg4.unread x2) (harg6.unread x4) (harg7.unread x5) f k0_pay2 ⟨k, hk⟩)
    refine (congrArg (fun L => View.read (Elt Ideal) arg9.view (arg9.view.writes (Elt Ideal) f L) (ix2 d l)) e).trans ?_
    refine (congrFun (congrArg (View.read (Elt Ideal) arg9.view) (View.writes_append _ _ _ _)) (ix2 d l)).trans ?_
    exact trip2L_apply 𝒱 c bd i arg2 harg2 arg3 harg3 arg4 harg4 arg5 harg5 arg6 harg6 arg7 harg7 arg8 harg8 arg9 harg9 arg0 v8 v71 v73 x1 x2 x4 x5 ⟨k, hk⟩ _ _ d l

end Cert.KernelIdeal.Hand
-- ==== Proof.KernelPay.lean ====
/- The kernel's payloads outside its loops, read at an index, and how they assemble one entry of an output block. -/
module

public import proofs.«01_k».proof.Proof.KernelTrip

@[expose] public section

set_option maxRecDepth 16384

noncomputable section

namespace Cert.KernelIdeal.Hand

open Idealize.ShloMosaic Idealize.ShloMosaic.TcCoe Idealize.ShloMosaic.Tactic
open Cert.KernelIdeal.Gen

/-- The query codes of the four heads sharing a key head, side by side. -/
theorem pay21_apply (x3 : Vec Ideal S4x64x128 .fp8e4m3) (d : Fin 64) (l : Fin 512) :
    k0_pay21 (View.ld x3 (Rect.unit ![0, 0, 0] ![1, 64, 128] inb_S4x64x128_S1x64x128_0_0_0))
        (View.ld x3 (Rect.unit ![1, 0, 0] ![1, 64, 128] inb_S4x64x128_S1x64x128_1_0_0))
        (View.ld x3 (Rect.unit ![2, 0, 0] ![1, 64, 128] inb_S4x64x128_S1x64x128_2_0_0))
        (View.ld x3 (Rect.unit ![3, 0, 0] ![1, 64, 128] inb_S4x64x128_S1x64x128_3_0_0)) (ix2 d l)
      = x3 (ix3 ⟨l.val / 128, by omega⟩ d ⟨l.val % 128, by omega⟩) := by
  pointwise [k0_pay21]
  split_ifs with h1 h2 h3 <;>
  · refine congrArg x3 (funext fun a => Fin.ext ?_)
    match a with
    | ⟨0, _⟩ => simp; omega
    | ⟨1, _⟩ => simp
    | ⟨2, _⟩ => simp; omega

/-- The query's scale in a column, one eighth folded in. -/
def qscale (x0 : Vec Ideal S128x64 .f32) (i : grid0.Coords) (l : Fin 512) : EReal :=
  have h0 : (i 0).val < 16 := (i 0).isLt
  x0 (ix2 ⟨(i 1).val, (i 1).isLt⟩ ⟨4 * (i 0).val + l.val / 128, by omega⟩) * Ideal.ofBits .f32 1040187392#32

theorem pay25_apply (x0 : Vec Ideal S128x64 .f32) (i : grid0.Coords) (s : Fin 8) (l : Fin 512) (v34 : Elt Ideal .f32)
    (a0 a1 a2 : Elt Ideal .f32)
    (e0 : ∀ h, a0 = x0 (ix2 ⟨(i 1).val, (i 1).isLt⟩ ⟨4 * (i 0).val + 0, h⟩))
    (e1 : ∀ h, a1 = x0 (ix2 ⟨(i 1).val, (i 1).isLt⟩ ⟨4 * (i 0).val + 1, h⟩))
    (e2 : ∀ h, a2 = x0 (ix2 ⟨(i 1).val, (i 1).isLt⟩ ⟨4 * (i 0).val + 2, h⟩))
    (e3 : ∀ h, v34 = x0 (ix2 ⟨(i 1).val, (i 1).isLt⟩ ⟨4 * (i 0).val + 3, h⟩)) :
    k0_pay25 (k0_pay22 a0) (k0_pay23 a1) (k0_pay24 a2) v34 (ix2 s l) = qscale x0 i l := by
  have h0 : (i 0).val < 16 := (i 0).isLt
  pointwise [k0_pay25, k0_pay22, k0_pay23, k0_pay24]
  unfold qscale
  have key : ∀ u (hu : u < 4) (hl : l.val / 128 = u) (b : Elt Ideal .f32),
      (∀ h, b = x0 (ix2 ⟨(i 1).val, (i 1).isLt⟩ ⟨4 * (i 0).val + u, h⟩)) →
      b * Ideal.ofBits .f32 1040187392#32 = x0 (ix2 ⟨(i 1).val, (i 1).isLt⟩ ⟨4 * (i 0).val + l.val / 128, by omega⟩) * Ideal.ofBits .f32 1040187392#32 := by
    intro u hu hl b hb
    subst hl
    rw [hb (by omega)]
  split_ifs with h1 h2 h3
  · exact key 0 (by omega) (by omega) a0 e0
  · exact key 1 (by omega) (by omega) a1 e1
  · exact key 2 (by omega) (by omega) a2 e2
  · exact key 3 (by omega) (by omega) v34 e3

theorem pay28_apply (v40 : FVec Ideal S8x512 .f32) (l : Fin 512) :
    k0_pay28 v40 (ix2 0 l) = Finset.univ.sup fun s : Fin 8 => v40 (ix2 s l) := by
  pointwise [k0_pay28]
  rw [Cert.Attn.ofBits_neg_inf]
  rfl

theorem pay29_apply (v40 : FVec Ideal S8x512 .f32) (l : Fin 512) :
    k0_pay29 v40 (ix2 0 l) = Cert.Attn.expo (Ideal.exp (k0_pay28 v40 (ix2 0 l) - k0_pay28 v40 (ix2 0 l))) := by
  unfold k0_pay29 Cert.Attn.expo
  rw [← Ideal.ofBits_zero_f32]
  rfl

theorem pay30_apply (v40 : FVec Ideal S8x512 .f32) (l : Fin 512) :
    k0_pay30 v40 (ix2 0 l) = Cert.Attn.pow2 (k0_pay29 v40 (ix2 0 l)) := rfl

theorem pay31_apply (v40 : FVec Ideal S8x512 .f32) (l : Fin 512) :
    k0_pay31 v40 (ix2 0 l) = k0_pay28 v40 (ix2 0 l) * Cert.Attn.L2
      - Ideal.log (Cert.Attn.pow2 (IntOp.subi 0#32 (k0_pay29 v40 (ix2 0 l)))) * Cert.Attn.L2 := by
  pointwise [k0_pay31]
  rfl

theorem pay32_apply (v15 v22 v29 : FVec Ideal S8x128 .f32) (v34 : Elt Ideal .f32) (l : Fin 512) :
    k0_pay32 v15 v22 v29 v34 (ix2 0 l) = k0_pay25 v15 v22 v29 v34 (ix2 0 l) * Cert.Attn.L2 := rfl

/-- The output payload at row `j` and column `z`: the column of the four heads' block it comes from. -/
theorem pay4_apply (v59 : FVec Ideal S1x512 .f32) (v80 : FVec Ideal S8x512 .f32) (v84 : Vec Ideal S64x512 .f32) (j : Fin 128) (z : Fin 256)
    (d : Fin 64) (l : Fin 512) (hd : d.val = z.val % 64) (hl : l.val = z.val / 64 * 128 + j.val) :
    k0_pay4 v59 v80 v84 (ix2 j z)
      = v84 (ix2 d l) * Ideal.div (v59 (ix2 0 l)) ((∑ s, v80 (ix2 s l)) * v59 (ix2 0 l)) := by
  have key : ∀ (d' : Fin 64) (l' : Fin 512), d'.val = z.val % 64 → l'.val = z.val / 64 * 128 + j.val →
      v84 (ix2 d' l') * Ideal.div (v59 (ix2 0 l')) ((∑ s, v80 (ix2 s l')) * v59 (ix2 0 l'))
        = v84 (ix2 d l) * Ideal.div (v59 (ix2 0 l)) ((∑ s, v80 (ix2 s l)) * v59 (ix2 0 l)) := by
    intro d' l' h1 h2
    rw [show d' = d from Fin.ext (h1.trans hd.symm), show l' = l from Fin.ext (h2.trans hl.symm)]
  pointwise [k0_pay4]
  split_ifs <;> exact key _ _ (by simp only; omega) (by simp only; omega)

/-- The maximum, the sums and the accumulator the loops leave make the kernel's entry of `Cert.Attn`. -/
theorem assemble (st1 l8 : FVec Ideal S8x512 .f32) (o : Vec Ideal S64x512 .f32) (x1 x2 : Vec Ideal S16x128 .f32)
    (x4 : Vec Ideal S1x16384x64 .fp8e4m3) (x5 : Vec Ideal S1x64x16384 .fp8e4m3) (v8 : FVec Ideal S64x512 .fp8e4m3)
    (v15 v22 v29 : FVec Ideal S8x128 .f32) (v34 : Elt Ideal .f32) (h : Fin 16) (d : Fin 64) (l : Fin 512) (q : EReal)
    (h25 : ∀ s, k0_pay25 v15 v22 v29 v34 (ix2 s l) = q)
    (h1 : ∀ s, st1 (ix2 s l) = Finset.univ.sup fun n : Fin 128 => kmax x4 v8 n s l * (k0_pay25 v15 v22 v29 v34 (ix2 s l) * x1 (ix2 h n)))
    (h2 : ∀ s : Fin 8, l8 (ix2 s l) = ∑ n : Fin 128, ∑ r : Fin 16, kprob x1 x4 v8 (k0_pay31 st1) (k0_pay32 v15 v22 v29 v34) h n ⟨8 * r.val + s.val, by omega⟩ l)
    (h3 : o (ix2 d l) = ∑ n : Fin 128, kpv x1 x2 x4 x5 v8 (k0_pay31 st1) (k0_pay32 v15 v22 v29 v34) h n d l) :
    o (ix2 d l) * Ideal.div (k0_pay30 st1 (ix2 0 l)) ((∑ s, l8 (ix2 s l)) * k0_pay30 st1 (ix2 0 l))
      = Cert.Attn.krow (fun n t => kscore x4 v8 n t l) q (fun n => x1 (ix2 h n)) (fun n => x2 (ix2 h n))
          (fun n t => x5 (ix3 0 d ⟨128 * n.val + t.val, by omega⟩)) := by
  have hM : k0_pay28 st1 (ix2 0 l) = Cert.Attn.kM (fun n t => kscore x4 v8 n t l) q (fun n => x1 (ix2 h n)) := by
    rw [pay28_apply]
    simp only [h1, h25]
    rfl
  have hE : k0_pay29 st1 (ix2 0 l) = Cert.Attn.kE (fun n t => kscore x4 v8 n t l) q (fun n => x1 (ix2 h n)) := by
    rw [pay29_apply, hM]; rfl
  have hP : ∀ n t, kprob x1 x4 v8 (k0_pay31 st1) (k0_pay32 v15 v22 v29 v34) h n t l
      = Cert.Attn.kP (fun n t => kscore x4 v8 n t l) q (fun n => x1 (ix2 h n)) n t := by
    intro n t
    unfold kprob Cert.Attn.kP
    rw [pay31_apply, pay32_apply, hM, hE, h25]
  rw [h3, pay30_apply, hE]
  simp only [h2]
  unfold kpv Cert.Attn.krow
  simp only [hP]

end Cert.KernelIdeal.Hand
-- ==== Proof.KernelBlock.lean ====
/- One output block of the kernel: each entry is the entry of `Cert.Attn` of the blocks the grid point reads. -/
module

public import proofs.«01_k».proof.Proof.KernelLoop
public import proofs.«01_k».proof.Proof.KernelPay

@[expose] public section

set_option maxRecDepth 16384

noncomputable section

namespace Cert.KernelIdeal.Hand

open Idealize.ShloMosaic Idealize.ShloMosaic.TcCoe Idealize.ShloMosaic.Tactic
open Cert.KernelIdeal.Gen

theorem trips_eq : Scf.trips (0#32) (Scalar.addi 0#32 32#32) 1#32 = 32 := by decide

set_option maxHeartbeats 2000000 in
theorem block_apply (c : Dev nD) (i : grid0.Coords) (arg2 : Memref sig .tc .smem S128x64 .f32) (harg2 : arg2.IsWhole) (arg3 : Memref sig .tc .smem S16x128 .f32) (harg3 : arg3.IsWhole) (arg4 : Memref sig .tc .smem S16x128 .f32) (harg4 : arg4.IsWhole) (arg5 : Memref sig .tc .vmem S4x64x128 .fp8e4m3) (harg5 : arg5.IsWhole) (arg6 : Memref sig .tc .vmem S1x16384x64 .fp8e4m3) (harg6 : arg6.IsWhole) (arg7 : Memref sig .tc .vmem S1x64x16384 .fp8e4m3) (harg7 : arg7.IsWhole) (arg8 : Memref sig .tc .vmem S128x256 .bf16) (harg8 : arg8.IsWhole) (arg9 : Memref sig .tc .vmem S64x512 .f32) (harg9 : arg9.IsWhole)
    (x0 : Vec Ideal S128x64 .f32) (x1 : Vec Ideal S16x128 .f32) (x2 : Vec Ideal S16x128 .f32) (x3 : Vec Ideal S4x64x128 .fp8e4m3) (x4 : Vec Ideal S1x16384x64 .fp8e4m3) (x5 : Vec Ideal S1x64x16384 .fp8e4m3)
    (j : Fin 128) (z : Fin 256) (d : Fin 64) (l : Fin 512) (hd : d.val = z.val % 64) (hl : l.val = z.val / 64 * 128 + j.val) :
    out0_A_6 c i arg2 harg2 arg3 harg3 arg4 harg4 arg5 harg5 arg6 harg6 arg7 harg7 arg8 harg8 arg9 harg9 x0 x1 x2 x3 x4 x5 (ix2 j z)
      = Cert.Attn.krow
          (fun n t => ∑ d' : Fin 64, x4 (ix3 0 ⟨128 * n.val + t.val, by omega⟩ d') * x3 (ix3 ⟨l.val / 128, by omega⟩ d' ⟨l.val % 128, by omega⟩))
          (qscale x0 i l) (fun n => x1 (ix2 (head i) n)) (fun n => x2 (ix2 (head i) n))
          (fun n t => x5 (ix3 0 d ⟨128 * n.val + t.val, by omega⟩)) := by
  unfold out0_A_6
  frame_open
  frame_out
  refine (pay4_apply _ _ _ j z d l hd hl).trans ?_
  rw [trips_eq]
  refine (assemble _ _ _ x1 x2 x4 x5 _ _ _ _ _ (head i) d l (qscale x0 i l) ?_ (fun s => loop1_apply .. ) (fun s => loop2_apply ..) ?_).trans ?_
  · intro s
    refine pay25_apply x0 i s l _ _ _ _ ?_ ?_ ?_ ?_
    · intro h
      pointwise
      have o : k0_off1 i 0#32 = ![(i 1).val, 4 * (i 0).val + 0] := k0_off1_eq i 0
      refine congrArg x0 (funext fun a => Fin.ext ?_)
      match a with
      | ⟨0, _⟩ => show k0_off1 i 0#32 0 = _; rw [o]; rfl
      | ⟨1, _⟩ => show k0_off1 i 0#32 1 = _; rw [o]; rfl
    · intro h
      pointwise
      have o : k0_off1 i 1#32 = ![(i 1).val, 4 * (i 0).val + 1] := k0_off1_eq i 1
      refine congrArg x0 (funext fun a => Fin.ext ?_)
      match a with
      | ⟨0, _⟩ => show k0_off1 i 1#32 0 = _; rw [o]; rfl
      | ⟨1, _⟩ => show k0_off1 i 1#32 1 = _; rw [o]; rfl
    · intro h
      pointwise
      have o : k0_off1 i 2#32 = ![(i 1).val, 4 * (i 0).val + 2] := k0_off1_eq i 2
      refine congrArg x0 (funext fun a => Fin.ext ?_)
      match a with
      | ⟨0, _⟩ => show k0_off1 i 2#32 0 = _; rw [o]; rfl
      | ⟨1, _⟩ => show k0_off1 i 2#32 1 = _; rw [o]; rfl
    · intro h
      pointwise
      have o : k0_off1 i 3#32 = ![(i 1).val, 4 * (i 0).val + 3] := k0_off1_eq i 3
      refine congrArg x0 (funext fun a => Fin.ext ?_)
      match a with
      | ⟨0, _⟩ => show k0_off1 i 3#32 0 = _; rw [o]; rfl
      | ⟨1, _⟩ => show k0_off1 i 3#32 1 = _; rw [o]; rfl
  · have hix : (Rect.unit ![0, 0] ![64, 512] inb_S64x512_S64x512_0_0).toLoadRect.idx (ix2 d l) = (ix2 d l : S64x512.Idx) := by
      funext a
      apply Fin.ext
      match a with
      | ⟨0, _⟩ => simp
      | ⟨1, _⟩ => simp
    unfold View.readCov
    rw [View.readAt, hix, View.writes_append]
    refine loop2L_apply _ _ _ _ _ _ _ _ _ _ _ _ _ _ _ _ _ _ _ _ _ _ _ _ _ _ _ _ _ d l ?_
    · refine (View.read_writes_cons_unit_of_mem _ _ _ _ _ (ix2 d l) (ix2 d l) rfl (fun a => ?_)).trans ?_
      · match a with
        | ⟨0, _⟩ => simp
        | ⟨1, _⟩ => simp
      rw [k0_pay1, shapeCast_self]
      exact Ideal.ofBits_zero_f32
  · unfold kscore
    simp only [pay21_apply]

end Cert.KernelIdeal.Hand
-- ==== Proof.KernelArray.lean ====
module

public import Idealize.ShloMosaic.Lib.Pointwise
public import Idealize.ShloMosaic.Lib.Pipeline.ValueKit
public import proofs.«01_k».proof.Proof.Gen.KernelIdeal.Value
public import proofs.«01_k».proof.Proof.Algebra
public import proofs.«01_k».proof.Proof.KernelBlock

@[expose] public section

set_option maxRecDepth 16384

noncomputable section

namespace Cert.KernelIdeal.Hand

open Idealize.ShloMosaic Idealize.ShloMosaic.TcCoe Idealize.ShloMosaic.Tactic
open Cert.KernelIdeal.Gen

/-- The result array, over the argument arrays of device `c`. -/
def G (m : (ℓ : Loc nD τ sig) → Buf (Elt Ideal) ℓ) (c : Dev nD) (y : S16384x4096.Idx) : EReal :=
  Cert.Attn.entry (fun a b => m ((c.tc : Thread nD τ).loc main_arg0) (ix2 a b)) (fun a b => m ((c.tc : Thread nD τ).loc main_arg1) (ix2 a b))
    (fun a b => m ((c.tc : Thread nD τ).loc main_arg2) (ix2 a b)) (fun a b d => m ((c.tc : Thread nD τ).loc main_arg3) (ix3 a b d))
    (fun a b d => m ((c.tc : Thread nD τ).loc main_arg4) (ix3 a b d)) (fun a b d => m ((c.tc : Thread nD τ).loc main_arg5) (ix3 a b d)) (y 0) (y 1)

/-- The first window's block is the whole array of query scales. -/
theorem in0 (m : (ℓ : Loc nD τ sig) → Buf (Elt Ideal) ℓ) (c : Dev nD) (t : Fin cfg0.N) (a : Fin 128) (b : Fin 64) :
    iblk m c 0 t (ix2 a b) = m ((c.tc : Thread nD τ).loc main_arg0) (ix2 a b) := by
  blk_simp [iblk]
  entry_read
  blk_ext
  · show 0 * _ + _ = _
    omega
  · show 0 * _ + _ = _
    omega

/-- The second window's block is the whole array of key scales. -/
theorem in1 (m : (ℓ : Loc nD τ sig) → Buf (Elt Ideal) ℓ) (c : Dev nD) (t : Fin cfg0.N) (a : Fin 16) (b : Fin 128) :
    iblk m c 1 t (ix2 a b) = m ((c.tc : Thread nD τ).loc main_arg1) (ix2 a b) := by
  blk_simp [iblk]
  entry_read
  blk_ext
  · show 0 * _ + _ = _
    omega
  · show 0 * _ + _ = _
    omega

/-- The third window's block is the whole array of value scales. -/
theorem in2 (m : (ℓ : Loc nD τ sig) → Buf (Elt Ideal) ℓ) (c : Dev nD) (t : Fin cfg0.N) (a : Fin 16) (b : Fin 128) :
    iblk m c 2 t (ix2 a b) = m ((c.tc : Thread nD τ).loc main_arg2) (ix2 a b) := by
  blk_simp [iblk]
  entry_read
  blk_ext
  · show 0 * _ + _ = _
    omega
  · show 0 * _ + _ = _
    omega

theorem c0_lt (t : Fin cfg0.N) : (grid0.coords t 0).val < 16 := (grid0.coords t 0).isLt
theorem c1_lt (t : Fin cfg0.N) : (grid0.coords t 1).val < 128 := (grid0.coords t 1).isLt

theorem nat0 (t : Fin cfg0.N) : (BitVec.ofNat 32 (grid0.coords t 0).val).toNat = (grid0.coords t 0).val := by
  have := c0_lt t
  rw [BitVec.toNat_ofNat]
  exact Nat.mod_eq_of_lt (by omega)

theorem nat1 (t : Fin cfg0.N) : (BitVec.ofNat 32 (grid0.coords t 1).val).toNat = (grid0.coords t 1).val := by
  have := c1_lt t
  rw [BitVec.toNat_ofNat]
  exact Nat.mod_eq_of_lt (by omega)

/-- The fourth window's block: the codes of four query heads, one tile of queries. -/
theorem in3 (m : (ℓ : Loc nD τ sig) → Buf (Elt Ideal) ℓ) (c : Dev nD) (t : Fin cfg0.N) (a : Fin 4) (d : Fin 64) (j : Fin 128)
    (A : Fin 64) (J : Fin 16384) (hA : A.val = (grid0.coords t 0).val * 4 + a.val) (hJ : J.val = (grid0.coords t 1).val * 128 + j.val) :
    iblk m c 3 t (ix3 a d j) = m ((c.tc : Thread nD τ).loc main_arg3) (ix3 A d J) := by
  blk_simp [iblk]
  entry_read
  blk_ext
  · show (BitVec.ofNat 32 (grid0.coords t 0).val).toNat * _ + _ = A.val
    rw [nat0, hA]
  · show 0 * _ + _ = _
    omega
  · show (BitVec.ofNat 32 (grid0.coords t 1).val).toNat * _ + _ = J.val
    rw [nat1, hJ]

/-- The fifth window's block: the codes of one key head. -/
theorem in4 (m : (ℓ : Loc nD τ sig) → Buf (Elt Ideal) ℓ) (c : Dev nD) (t : Fin cfg0.N) (s : Fin 16384) (d : Fin 64)
    (A : Fin 16) (hA : A.val = (grid0.coords t 0).val) :
    iblk m c 4 t (ix3 0 s d) = m ((c.tc : Thread nD τ).loc main_arg4) (ix3 A s d) := by
  blk_simp [iblk]
  entry_read
  blk_ext
  · show (BitVec.ofNat 32 (grid0.coords t 0).val).toNat + 0 = A.val
    rw [nat0, hA]
    omega
  · show 0 * _ + _ = _
    omega
  · show 0 * _ + _ = _
    omega

/-- The sixth window's block: the codes of one value head. -/
theorem in5 (m : (ℓ : Loc nD τ sig) → Buf (Elt Ideal) ℓ) (c : Dev nD) (t : Fin cfg0.N) (d : Fin 64) (s : Fin 16384)
    (A : Fin 16) (hA : A.val = (grid0.coords t 0).val) :
    iblk m c 5 t (ix3 0 d s) = m ((c.tc : Thread nD τ).loc main_arg5) (ix3 A d s) := by
  blk_simp [iblk]
  entry_read
  blk_ext
  · show (BitVec.ofNat 32 (grid0.coords t 0).val).toNat + 0 = A.val
    rw [nat0, hA]
    omega
  · show 0 * _ + _ = _
    omega
  · show 0 * _ + _ = _
    omega

set_option maxHeartbeats 1000000 in
/-- The kernel's output array after its last grid point, where the scales are not negative. -/
theorem array (m : (ℓ : Loc nD τ sig) → Buf (Elt Ideal) ℓ) (c : Dev nD)
    (h0 : ∀ a b, (0 : EReal) ≤ m ((c.tc : Thread nD τ).loc main_arg0) (ix2 a b))
    (h1 : ∀ a b, (0 : EReal) ≤ m ((c.tc : Thread nD τ).loc main_arg1) (ix2 a b)) :
    (dats m 0 c).arrAt 6 cfg0.N = G m c := by
  refine (dats m 0 c).arrAt_eq_of_covers 6 _ ((cfg0.win 6).covers_of_indexMap_surj rfl (by decide) fun β => ?_) fun t hf y => ?_
  · have b0 : (β 0).val < 128 := (β 0).isLt
    have b1 : (β 1).val < 16 := (β 1).isLt
    refine ⟨fun a => match a with | ⟨0, _⟩ => ⟨(β 1).val, b1⟩ | ⟨1, _⟩ => ⟨(β 0).val, b0⟩, fun a => ?_⟩
    match a with
    | ⟨0, _⟩ => exact (BitVec.toNat_ofNat _ _).trans (Nat.mod_eq_of_lt (lt_of_lt_of_le b0 (by decide)))
    | ⟨1, _⟩ => exact (BitVec.toNat_ofNat _ _).trans (Nat.mod_eq_of_lt (lt_of_lt_of_le b1 (by decide)))
  blk_simp
  rw [after0_6]
  obtain ⟨j, z, rfl⟩ : ∃ (j : Fin 128) (z : Fin 256), y = ix2 j z :=
    ⟨y 0, y 1, funext fun a => match a with | ⟨0, _⟩ => rfl | ⟨1, _⟩ => rfl⟩
  unfold outsAt0
  refine (block_apply c (grid0.coords t) _ _ _ _ _ _ _ _ _ _ _ _ _ _ _ _ _ _ _ _ _ _ j z ⟨z.val % 64, by omega⟩
    ⟨z.val / 64 * 128 + j.val, by omega⟩ rfl rfl).trans ?_
  have l0 := c0_lt t
  have l1 := c1_lt t
  rw [Cert.Attn.krow_eq]
  · have ey : (win0_6.blk t).view.emb (ix2 j z)
        = (ix2 (⟨(grid0.coords t 1).val * 128 + j.val, by omega⟩ : Fin 16384) (⟨(grid0.coords t 0).val * 256 + z.val, by omega⟩ : Fin 4096)
            : S16384x4096.Idx) := by
      blk_ext
      · show (BitVec.ofNat 32 (grid0.coords t 1).val).toNat * _ + _ = _
        rw [nat1]
      · show (BitVec.ofNat 32 (grid0.coords t 0).val).toNat * _ + _ = _
        rw [nat0]
    rw [ey]
    unfold G Cert.Attn.entry qscale
    congr 1
    · funext n s
      refine Finset.sum_congr rfl fun d' _ => congrArg₂ (· * ·) ?_ ?_
      · exact in4 m c t _ d' _ (by show (_ : ℕ) = _; simp; omega)
      · exact in3 m c t _ d' _ _ _ (by show (_ : ℕ) = _; simp; omega) (by show (_ : ℕ) = _; simp; omega)
    · refine congrArg (· * Ideal.ofBits .f32 1040187392#32) ((in0 m c t _ _).trans ?_)
      refine congrArg (m ((c.tc : Thread nD τ).loc main_arg0)) (congrArg₂ ix2 (Fin.ext ?_) (Fin.ext ?_))
      · show (_ : ℕ) = _; simp; omega
      · show (_ : ℕ) = _; simp; omega
    · funext n
      refine (in1 m c t _ n).trans ?_
      refine congrArg (m ((c.tc : Thread nD τ).loc main_arg1)) (congrArg₂ ix2 (Fin.ext ?_) rfl)
      show (grid0.coords t 0).val = ((grid0.coords t 0).val * 256 + z.val) / 256
      omega
    · funext n
      refine (in2 m c t _ n).trans ?_
      refine congrArg (m ((c.tc : Thread nD τ).loc main_arg2)) (congrArg₂ ix2 (Fin.ext ?_) rfl)
      show (grid0.coords t 0).val = ((grid0.coords t 0).val * 256 + z.val) / 256
      omega
    · funext n s
      refine (in5 m c t _ _ ⟨(grid0.coords t 0).val, l0⟩ rfl).trans ?_
      refine congrArg (m ((c.tc : Thread nD τ).loc main_arg5)) (congrArg₂ (fun a b => ix3 a b _) (Fin.ext ?_) (Fin.ext ?_))
      · show (grid0.coords t 0).val = ((grid0.coords t 0).val * 256 + z.val) / 256
        omega
      · show z.val % 64 = ((grid0.coords t 0).val * 256 + z.val) % 64
        omega
  · intro n
    refine mul_nonneg (mul_nonneg ?_ Cert.Attn.ofBits_eighth_nonneg) ?_
    · rw [in0]
      exact h0 _ _
    · rw [in1]
      exact h1 _ _

end Cert.KernelIdeal.Hand
-- ==== Proof.RefPay.lean ====
module

public import Idealize.ShloMosaic.Lib.Pointwise
public import Idealize.ShloMosaic.Lib.Pipeline.ValueKit
public import proofs.«01_k».proof.Proof.Gen.ReferenceIdeal.Value
public import proofs.«01_k».proof.Proof.Algebra

@[expose] public section

set_option maxRecDepth 16384

noncomputable section

namespace Cert.ReferenceIdeal.Hand

open Idealize.ShloMosaic Idealize.ShloMosaic.TcCoe Idealize.ShloMosaic.Tactic
open Cert.ReferenceIdeal.Gen

/-- The entries a reduction over the two middle axes brings to `(h, q)`: those whose outer coordinates are `h`
and `q`. -/
theorem fiber (h : Fin 64) (q : Fin 16384) (i : S64x128x128x16384.Idx) :
    reduces_S64x128x128x16384_S64x16384.drop i = ix2 h q ↔ ∃ k : Fin 128 × Fin 128, ix4 h k.1 k.2 q = i := by
  constructor
  · intro e
    refine ⟨(i 1, i 2), ?_⟩
    funext a
    apply Fin.ext
    match a with
    | ⟨0, _⟩ => exact (congrArg Fin.val (congrFun e ⟨0, by decide⟩)).symm
    | ⟨1, _⟩ => rfl
    | ⟨2, _⟩ => rfl
    | ⟨3, _⟩ => exact (congrArg Fin.val (congrFun e ⟨1, by decide⟩)).symm
  · rintro ⟨k, rfl⟩
    funext b
    apply Fin.ext
    match b with
    | ⟨0, _⟩ => rfl
    | ⟨1, _⟩ => rfl

theorem ix4_inj (h : Fin 64) (q : Fin 16384) :
    Function.Injective fun k : Fin 128 × Fin 128 => (ix4 h k.1 k.2 q : S64x128x128x16384.Idx) :=
  fun _ _ e => Prod.ext (congrFun e 1) (congrFun e 2)

/-- A sum over the two middle axes, as a sum over their pairs. -/
theorem sum_mid (h : Fin 64) (q : Fin 16384) (v : S64x128x128x16384.Idx → EReal) :
    Ideal.reduceAdd reduces_S64x128x128x16384_S64x16384 v (ix2 h q) = ∑ k : Fin 128 × Fin 128, v (ix4 h k.1 k.2 q) :=
  Finset.sum_filter_eq_sum_of_fiber _ (fun k : Fin 128 × Fin 128 => (ix4 h k.1 k.2 q : S64x128x128x16384.Idx))
    (ix4_inj h q) (fiber h q) v

/-- A maximum over the two middle axes, as a maximum over their pairs. -/
theorem max_mid (h : Fin 64) (q : Fin 16384) (v : S64x128x128x16384.Idx → EReal) :
    Finset.fold max (Ideal.ofBits .f32 4286578688#32) v
        {i | reduces_S64x128x128x16384_S64x16384.drop i = ix2 h q}
      = Finset.univ.sup fun k : Fin 128 × Fin 128 => v (ix4 h k.1 k.2 q) := by
  rw [Cert.Attn.ofBits_neg_inf]
  exact Finset.fold_filter_eq_fold_of_fiber max _ (fun k : Fin 128 × Fin 128 => (ix4 h k.1 k.2 q : S64x128x128x16384.Idx))
    (ix4_inj h q) (fiber h q) ⊥ v

/-- The products of the codes of query `q` of head `h` with those of the keys of block `n`. -/
abbrev codes (v0 : Vec Ideal S64x16384x64 .fp8e4m3) (v2 : Vec Ideal S64x64x16384 .fp8e4m3) (h : Fin 64) (q : Fin 16384)
    (n t : Fin 128) : EReal :=
  ∑ d' : Fin 64, v0 (ix3 h ⟨n.val * 128 + t.val, by omega⟩ d') * v2 (ix3 h d' q)

/-- The probability of key `128 n + t` for query `q` of head `h`, before the quantiser. -/
def rprob (v0 : Vec Ideal S64x16384x64 .fp8e4m3) (v2 : Vec Ideal S64x64x16384 .fp8e4m3)
    (v5 : Vec Ideal S64x1x1x16384 .f32) (v9 : Vec Ideal S64x128x1x1 .f32) (h : Fin 64) (q : Fin 16384) (n t : Fin 128) : EReal :=
  Ideal.exp (codes v0 v2 h q n t * (v5 (ix4 h 0 0 q) * Ideal.ofBits .f32 1040187392#32 * v9 (ix4 h n 0 0))
    - Finset.univ.sup fun i : Fin 128 × Fin 128 =>
        codes v0 v2 h q i.1 i.2 * (v5 (ix4 h 0 0 q) * Ideal.ofBits .f32 1040187392#32 * v9 (ix4 h i.1 0 0)))

/-- The reference computes these probabilities. -/
theorem pay2_apply (v0 : Vec Ideal S64x16384x64 .fp8e4m3) (v2 : Vec Ideal S64x64x16384 .fp8e4m3)
    (v5 : Vec Ideal S64x1x1x16384 .f32) (v9 : Vec Ideal S64x128x1x1 .f32) (h : Fin 64) (n t : Fin 128) (q : Fin 16384) :
    k0_pay2 (F := Ideal) v0 v2 v5 v9 (ix4 h n t q) = rprob v0 v2 v5 v9 h q n t := by
  pointwise [k0_pay2]
  rw [max_mid]
  rfl

/-- The sum of the reference's probabilities. -/
theorem pay3_apply (v0 : Vec Ideal S64x16384x64 .fp8e4m3) (v2 : Vec Ideal S64x64x16384 .fp8e4m3)
    (v5 : Vec Ideal S64x1x1x16384 .f32) (v9 : Vec Ideal S64x128x1x1 .f32) (h : Fin 64) (q : Fin 16384) :
    k0_pay3 (F := Ideal) v0 v2 v5 v9 (ix2 h q) = ∑ k : Fin 128 × Fin 128, rprob v0 v2 v5 v9 h q k.1 k.2 := by
  refine Eq.trans ?_ (Finset.sum_congr rfl fun k _ => pay2_apply v0 v2 v5 v9 h k.1 k.2 q)
  refine Eq.trans ?_ (sum_mid h q _)
  pointwise [k0_pay3]

/-- The largest magnitude among the reference's probabilities. -/
theorem pay4_apply (v0 : Vec Ideal S64x16384x64 .fp8e4m3) (v2 : Vec Ideal S64x64x16384 .fp8e4m3)
    (v5 : Vec Ideal S64x1x1x16384 .f32) (v9 : Vec Ideal S64x128x1x1 .f32) (h : Fin 64) (q : Fin 16384) :
    k0_pay4 (F := Ideal) v0 v2 v5 v9 (ix4 h 0 0 q)
      = Finset.univ.sup fun k : Fin 128 × Fin 128 => max (rprob v0 v2 v5 v9 h q k.1 k.2) (-(rprob v0 v2 v5 v9 h q k.1 k.2)) := by
  have e : (fun k : Fin 128 × Fin 128 => max (rprob v0 v2 v5 v9 h q k.1 k.2) (-(rprob v0 v2 v5 v9 h q k.1 k.2)))
      = fun k : Fin 128 × Fin 128 => absf (F := Ideal) (φ := .f32) (k0_pay2 (F := Ideal) v0 v2 v5 v9) (ix4 h k.1 k.2 q) := by
    funext k
    rw [← pay2_apply]
    rfl
  rw [e, ← max_mid]
  pointwise [k0_pay4]

/-- The base-two factor of the quantiser. -/
theorem named_log2e : (Named.named κ "log2e" 0x3FB8AA3B#32 : Ideal .f32) = Cert.Attn.L2 := by
  unfold Cert.Attn.L2
  exact rfl

/-- The quantiser's 1/448, read. -/
theorem ofBits_step : FloatOps.ofBits (F := Ideal) FTy.f32 991054117#32 = Ideal.ofBits .f32 991054117#32 := rfl

/-- The quantiser's base-two logarithm at an index. -/
theorem log_apply (p4 : FVec Ideal S64x1x1x16384 .f32) (C L : Ideal .f32) (i : S64x1x1x16384.Idx) :
    mulf (F := Ideal) (φ := .f32) (log (F := Ideal) (φ := .f32) (mulf p4 (broadcast S64x1x1x16384 C))) (broadcast S64x1x1x16384 L) i
      = Ideal.log ((p4 i : EReal) * (C : EReal)) * (L : EReal) := rfl

/-- Its floor, as a word, plus one. -/
theorem floor_apply (v : FVec Ideal S64x1x1x16384 .f32) (i : S64x1x1x16384.Idx) :
    addi (fptosi (F := Ideal) 32 (floor (F := Ideal) (φ := .f32) v)) (broadcast S64x1x1x16384 1#32) i
      = IntOp.addi (Ideal.fptosi 32 (Ideal.liftRound Int.floor (v i))) 1#32 := rfl

/-- The comparison with zero at an index. -/
theorem zero_apply (p4 : FVec Ideal S64x1x1x16384 .f32) (i : S64x1x1x16384.Idx) :
    cmpf (F := Ideal) .oeq p4 (broadcast S64x1x1x16384 (FloatOps.ofBits FTy.f32 0#32)) i = Ideal.cmp .oeq (p4 i) 0 := by
  rw [← Ideal.ofBits_zero_f32]
  rfl

/-- The quantiser's exponent, selected. -/
theorem sel_apply (v0 : Vec Ideal S64x16384x64 .fp8e4m3) (v2 : Vec Ideal S64x64x16384 .fp8e4m3)
    (v5 : Vec Ideal S64x1x1x16384 .f32) (v9 : Vec Ideal S64x128x1x1 .f32) (h : Fin 64) (q : Fin 16384) :
    Scalar.select (k0_pay5 (F := Ideal) v0 v2 v5 v9 (ix4 h 0 0 q)) (0#32) (k0_pay6 (F := Ideal) v0 v2 v5 v9 (ix4 h 0 0 q))
      = Cert.Attn.expo (k0_pay4 (F := Ideal) v0 v2 v5 v9 (ix4 h 0 0 q)) := by
  unfold Cert.Attn.expo k0_pay5 k0_pay6
  generalize k0_pay4 (F := Ideal) v0 v2 v5 v9 = p4
  refine congrArg₂ (fun b e => Scalar.select b 0#32 e) (zero_apply p4 _) ((floor_apply _ _).trans ?_)
  refine congrArg (fun x => IntOp.addi (Ideal.fptosi 32 (Ideal.liftRound Int.floor x)) 1#32) ((log_apply p4 _ _ _).trans ?_)
  rw [named_log2e]
  exact congrArg (fun x => Ideal.log (p4 (ix4 h 0 0 q) * x) * Cert.Attn.L2) ofBits_step

/-- The reference's stored value, over the probabilities, their sum and the quantiser's exponent. -/
theorem pay1_gen (p2 : FVec Ideal S64x128x128x16384 .f32) (p3 : FVec Ideal S64x16384 .f32) (p5 : IVec S64x1x1x16384 1)
    (p6 : IVec S64x1x1x16384 32) (v51 : Vec Ideal S8192x128x64 .fp8e4m3)
    (v56 : Vec Ideal S64x128x1x1 .f32) (q : Fin 16384) (z : Fin 4096) (h : Fin 64) (hh : h.val = z.val / 64)
    (e : BitVec 32) (he : Scalar.select (p5 (ix4 h 0 0 q)) (0#32) (p6 (ix4 h 0 0 q)) = e) :
    k0_pay1 (F := Ideal) p2 p3 p5 p6 0#32 v51 v56 (ix2 q z)
      = (∑ n : Fin 128, (∑ t : Fin 128, v51 (ix3 ⟨h.val * 128 + n.val, by omega⟩ t ⟨z.val % 64, by omega⟩)
            * min (Ideal.ofBits .f32 1138753536#32) (max (Ideal.ofBits .f32 3286237184#32)
                (p2 (ix4 h n t q) * Cert.Attn.pow2 (IntOp.subi 0#32 e)))) * v56 (ix4 h n 0 0))
          * Ideal.div (Cert.Attn.pow2 e) (p3 (ix2 h q)) := by
  pointwise [k0_pay1]
  have e0 : (⟨z.val / 64, by omega⟩ : Fin 64) = h := Fin.ext hh.symm
  have e1 : ∀ n : Fin 128, (⟨(z.val / 64 * 128 + n.val) / 128, by omega⟩ : Fin 64) = h := fun n => Fin.ext (by simp only; omega)
  have e2 : ∀ n : Fin 128, (⟨z.val / 64 * 128 + n.val, by omega⟩ : Fin 8192) = ⟨h.val * 128 + n.val, by omega⟩ :=
    fun n => Fin.ext (by simp only; omega)
  simp only [e0, e1, e2, he]
  rfl

/-- The reference's stored value, over the arrays its one call reads. -/
theorem pay1_apply (v0 : Vec Ideal S64x16384x64 .fp8e4m3) (v2 : Vec Ideal S64x64x16384 .fp8e4m3)
    (v5 : Vec Ideal S64x1x1x16384 .f32) (v9 : Vec Ideal S64x128x1x1 .f32) (v51 : Vec Ideal S8192x128x64 .fp8e4m3)
    (v56 : Vec Ideal S64x128x1x1 .f32) (q : Fin 16384) (z : Fin 4096) (h : Fin 64) (hh : h.val = z.val / 64) :
    k0_pay1 (F := Ideal) (k0_pay2 v0 v2 v5 v9) (k0_pay3 v0 v2 v5 v9) (k0_pay5 v0 v2 v5 v9) (k0_pay6 v0 v2 v5 v9) 0#32 v51 v56 (ix2 q z)
      = Cert.Attn.row (codes v0 v2 h q) (v5 (ix4 h 0 0 q) * Ideal.ofBits .f32 1040187392#32)
          (fun n => v9 (ix4 h n 0 0)) (fun n => v56 (ix4 h n 0 0))
          (fun n t => v51 (ix3 ⟨h.val * 128 + n.val, by omega⟩ t ⟨z.val % 64, by omega⟩)) := by
  refine (pay1_gen _ _ _ _ v51 v56 q z h hh _ (sel_apply v0 v2 v5 v9 h q)).trans ?_
  rw [pay4_apply, pay3_apply]
  simp only [pay2_apply]
  rfl

end Cert.ReferenceIdeal.Hand
-- ==== Proof.RefArray.lean ====
module

public import proofs.«01_k».proof.Proof.RefPay

@[expose] public section

set_option maxRecDepth 16384

noncomputable section

namespace Cert.ReferenceIdeal.Hand

open Idealize.ShloMosaic Idealize.ShloMosaic.TcCoe Idealize.ShloMosaic.Tactic
open Cert.ReferenceIdeal.Gen

variable (m : (ℓ : Loc nD τ sig) → Buf (Elt Ideal) ℓ) (c : Dev nD)

/-- The scales of the queries, one to a column. -/
theorem in0 (t : Fin cfg0.N) (h : Fin 64) (q : Fin 16384) :
    iblk m c 0 t (ix4 h 0 0 q) = m ((c.tc : Thread nD τ).loc main_arg0) (ix2 ⟨q.val / 128, by omega⟩ h) := by
  have e : ((View.whole main_v3).slice (win0_0.rect t)).emb (ix4 h 0 0 q) = (ix4 h 0 0 q : S64x1x1x16384.Idx) := by
    blk_ext
    all_goals first | (show 0 * _ + _ = _; omega) | rfl
  blk_simp [iblk]
  entry_read
  rw [e]
  pointwise

/-- The scales of the keys, one to a block of a head. -/
theorem in1 (t : Fin cfg0.N) (h : Fin 64) (n : Fin 128) :
    iblk m c 1 t (ix4 h n 0 0) = m ((c.tc : Thread nD τ).loc main_arg1) (ix2 ⟨h.val / 4, by omega⟩ n) := by
  have e : ((View.whole main_v6).slice (win0_1.rect t)).emb (ix4 h n 0 0) = (ix4 h n 0 0 : S64x128x1x1.Idx) := by
    blk_ext
    all_goals first | (show 0 * _ + _ = _; omega) | rfl
  blk_simp [iblk]
  entry_read
  rw [e]
  pointwise

/-- The scales of the values, one to a block of a head. -/
theorem in2 (t : Fin cfg0.N) (h : Fin 64) (n : Fin 128) :
    iblk m c 2 t (ix4 h n 0 0) = m ((c.tc : Thread nD τ).loc main_arg2) (ix2 ⟨h.val / 4, by omega⟩ n) := by
  have e : ((View.whole main_v9).slice (win0_2.rect t)).emb (ix4 h n 0 0) = (ix4 h n 0 0 : S64x128x1x1.Idx) := by
    blk_ext
    all_goals first | (show 0 * _ + _ = _; omega) | rfl
  blk_simp [iblk]
  entry_read
  rw [e]
  pointwise

/-- The codes of the queries. -/
theorem in3 (t : Fin cfg0.N) (h : Fin 64) (d : Fin 64) (q : Fin 16384) :
    iblk m c 3 t (ix3 h d q) = m ((c.tc : Thread nD τ).loc main_arg3) (ix3 h d q) := by
  have e : ((View.whole main_arg3).slice (win0_3.rect t)).emb (ix3 h d q) = (ix3 h d q : S64x64x16384.Idx) := by
    blk_ext
    all_goals first | (show 0 * _ + _ = _; omega) | rfl
  blk_simp [iblk]
  entry_read
  rw [e]

/-- The codes of the keys, each key head for the four query heads that share it. -/
theorem in4 (t : Fin cfg0.N) (h : Fin 64) (s : Fin 16384) (d : Fin 64) :
    iblk m c 4 t (ix3 h s d) = m ((c.tc : Thread nD τ).loc main_arg4) (ix3 ⟨h.val / 4, by omega⟩ s d) := by
  have e : ((View.whole main_v11).slice (win0_4.rect t)).emb (ix3 h s d) = (ix3 h s d : S64x16384x64.Idx) := by
    blk_ext
    all_goals first | (show 0 * _ + _ = _; omega) | rfl
  blk_simp [iblk]
  entry_read
  rw [e]
  pointwise

/-- The sixth window's block is its whole array. -/
theorem read5 (t : Fin cfg0.N) (A : S8192x128x64.Idx → EReal) (w : Fin 8192) (s : Fin 128) (d : Fin 64) :
    ((cfg0.win 5).blk t).view.read (Elt Ideal) A (ix3 w s d) = A (ix3 w s d) := by
  have e : ((View.whole main_v16).slice (win0_5.rect t)).emb (ix3 w s d) = (ix3 w s d : S8192x128x64.Idx) := by
    blk_ext
    all_goals first | (show 0 * _ + _ = _; omega) | rfl
  exact congrArg A e

/-- The sixth window's block, as the array the host lays out. -/
theorem iblk5 (t : Fin cfg0.N) (w : Fin 8192) (s : Fin 128) (d : Fin 64) :
    iblk m c 5 t (ix3 w s d) = V m c main_v16 (ix3 w s d) := by
  unfold iblk
  exact read5 t (V m c main_v16) w s d

/-- The value codes laid out in blocks, read at an index. -/
theorem layout_apply (x : S16x64x16384.Idx → EReal) (w : Fin 8192) (s : Fin 128) (d : Fin 64) :
    shapeCast S8192x128x64 (transpose S64x128x128x64 [0, 2, 3, 1]
        (shapeCast S64x64x128x128 (shapeCast S64x64x16384 (broadcastInDim S16x4x64x16384 ![0, 2, 3] bcast_S16x64x16384_S16x4x64x16384_0_2_3 x)
          shapeCasts_S16x4x64x16384_S64x64x16384) shapeCasts_S64x64x16384_S64x64x128x128)
        transposes_S64x64x128x128_S64x128x128x64_0_2_3_1) shapeCasts_S64x128x128x64_S8192x128x64 (ix3 w s d)
      = x (ix3 ⟨w.val / 512, by omega⟩ d ⟨w.val % 128 * 128 + s.val, by omega⟩) := by
  pointwise
  refine congrArg x (funext fun a => Fin.ext ?_)
  match a with
  | ⟨0, _⟩ => show w.val / 128 / 4 = w.val / 512; omega
  | ⟨1, _⟩ => rfl
  | ⟨2, _⟩ => rfl

/-- That array, over the value codes. -/
theorem V5 (w : Fin 8192) (s : Fin 128) (d : Fin 64) :
    V m c main_v16 (ix3 w s d) = m ((c.tc : Thread nD τ).loc main_arg5) (ix3 ⟨w.val / 512, by omega⟩ d ⟨w.val % 128 * 128 + s.val, by omega⟩) := by
  entry_read
  exact layout_apply _ w s d

/-- The codes of the values, block by block. -/
theorem in5 (t : Fin cfg0.N) (w : Fin 8192) (s : Fin 128) (d : Fin 64) :
    iblk m c 5 t (ix3 w s d) = m ((c.tc : Thread nD τ).loc main_arg5) (ix3 ⟨w.val / 512, by omega⟩ d ⟨w.val % 128 * 128 + s.val, by omega⟩) :=
  (iblk5 m c t w s d).trans (V5 m c w s d)

/-- The result array, over the argument arrays of device `c`. -/
def G (y : S16384x4096.Idx) : EReal :=
  Cert.Attn.entry (fun a b => m ((c.tc : Thread nD τ).loc main_arg0) (ix2 a b)) (fun a b => m ((c.tc : Thread nD τ).loc main_arg1) (ix2 a b))
    (fun a b => m ((c.tc : Thread nD τ).loc main_arg2) (ix2 a b)) (fun a b d => m ((c.tc : Thread nD τ).loc main_arg3) (ix3 a b d))
    (fun a b d => m ((c.tc : Thread nD τ).loc main_arg4) (ix3 a b d)) (fun a b d => m ((c.tc : Thread nD τ).loc main_arg5) (ix3 a b d)) (y 0) (y 1)

/-- The stored value at an index, over the argument arrays. -/
theorem stored (t : Fin cfg0.N) (q : Fin 16384) (z : Fin 4096) :
    k0_pay1 (F := Ideal) (k0_pay2 (iblk m c 4 t) (iblk m c 3 t) (iblk m c 0 t) (iblk m c 1 t))
        (k0_pay3 (iblk m c 4 t) (iblk m c 3 t) (iblk m c 0 t) (iblk m c 1 t))
        (k0_pay5 (iblk m c 4 t) (iblk m c 3 t) (iblk m c 0 t) (iblk m c 1 t))
        (k0_pay6 (iblk m c 4 t) (iblk m c 3 t) (iblk m c 0 t) (iblk m c 1 t)) (0#32) (iblk m c 5 t) (iblk m c 2 t) (ix2 q z)
      = G m c (ix2 q z) := by
  refine (pay1_apply (iblk m c 4 t) (iblk m c 3 t) (iblk m c 0 t) (iblk m c 1 t) (iblk m c 5 t) (iblk m c 2 t) q z
    ⟨z.val / 64, by omega⟩ rfl).trans ?_
  have ez : z.val / 64 / 4 = z.val / 256 := by omega
  unfold G Cert.Attn.entry
  congr 1
  · funext n s
    refine Finset.sum_congr rfl fun d' _ => congrArg₂ (· * ·) ((in4 m c t _ _ d').trans ?_) (in3 m c t _ d' q)
    refine congrArg (m ((c.tc : Thread nD τ).loc main_arg4)) (congrArg₂ (fun a b => ix3 a b d') (Fin.ext ez) (Fin.ext ?_))
    show n.val * 128 + s.val = 128 * n.val + s.val
    omega
  · exact congrArg (· * Ideal.ofBits .f32 1040187392#32) (in0 m c t _ q)
  · funext n
    exact (in1 m c t _ n).trans (congrArg (m ((c.tc : Thread nD τ).loc main_arg1)) (congrArg₂ ix2 (Fin.ext ez) rfl))
  · funext n
    exact (in2 m c t _ n).trans (congrArg (m ((c.tc : Thread nD τ).loc main_arg2)) (congrArg₂ ix2 (Fin.ext ez) rfl))
  · funext n s
    refine (in5 m c t _ s _).trans ?_
    refine congrArg (m ((c.tc : Thread nD τ).loc main_arg5)) (congrArg₂ (fun a b => ix3 a _ b) (Fin.ext ?_) (Fin.ext ?_))
    · show (z.val / 64 * 128 + n.val) / 512 = z.val / 256
      omega
    · show (z.val / 64 * 128 + n.val) % 128 * 128 + s.val = 128 * n.val + s.val
      omega

/-- The reference's output array after its one grid point. -/
theorem array : (dats m 0 c).arrAt 6 cfg0.N = G m c := by
  refine (dats m 0 c).arrAt_eq_of_covers 6 _ (by decide +kernel) fun t hf y => ?_
  blk_simp
  rw [after0_6]
  frame_out
  obtain ⟨q, z, rfl⟩ : ∃ (q : Fin 16384) (z : Fin 4096), y = ix2 q z :=
    ⟨y 0, y 1, funext fun a => match a with | ⟨0, _⟩ => rfl | ⟨1, _⟩ => rfl⟩
  have e : ((View.whole main_v17).slice (win0_6.rect t)).emb (ix2 q z) = (ix2 q z : S16384x4096.Idx) := by
    blk_ext
    all_goals first | (show 0 * _ + _ = _; omega) | rfl
  rw [e]
  exact stored m c t q z

end Cert.ReferenceIdeal.Hand
-- ==== Proof.Pre.lean ====
module

public import proofs.«01_k».proof.Defs
public import proofs.«01_k».proof.Proof.Gen.Pre_scales_nonneg
public import Idealize.ShloMosaic.Lib.ReduceAll
public import Idealize.ShloMosaic.Lib.Pointwise

@[expose] public section

noncomputable section

namespace Cert.Pre_scales_nonneg.Hand

open Idealize.ShloMosaic Cert.Pre_scales_nonneg

theorem andi_one (a b : BitVec 1) (h : IntOp.andi a b = 1#1) : a = 1#1 ∧ b = 1#1 := by
  revert h
  unfold IntOp.andi
  revert a b
  decide

theorem cmp_ge (x : EReal) (h : Ideal.cmp .oge x (Ideal.ofBits .f32 0#32) = 1#1) : 0 ≤ x := by
  rw [Ideal.ofBits_zero_f32] at h
  by_contra hx
  simp [Ideal.cmp, hx] at h

/-- Where the precondition's word is one, no scale of the queries or of the keys is negative. -/
theorem nonneg [Facts] (a0 : FVec Ideal S128x64 .f32) (a1 a2 : FVec Ideal S16x128 .f32) (a3 : FVec Ideal S64x64x16384 .fp8e4m3)
    (a4 : FVec Ideal S16x16384x64 .fp8e4m3) (a5 : FVec Ideal S16x64x16384 .fp8e4m3) (j : S_.Idx)
    (h : fn (F := Ideal) a0 a1 a2 a3 a4 a5 j = 1#1) :
    (∀ i, (0 : EReal) ≤ a0 i) ∧ ∀ i, (0 : EReal) ≤ a1 i := by
  haveI : Subsingleton S_.Idx := ⟨fun a b => funext fun x => x.elim0⟩
  obtain ⟨h0, h1⟩ := andi_one _ _ h
  exact ⟨fun i => cmp_ge _ (Host.reduce_andi_all _ _ _ _ j h0 i), fun i => cmp_ge _ (Host.reduce_andi_all _ _ _ _ j h1 i)⟩

end Cert.Pre_scales_nonneg.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_nonneg
public import proofs.«01_k».proof.Proof.Gen.KernelIdeal.Value
public import proofs.«01_k».proof.Proof.Gen.ReferenceIdeal.Value
public import proofs.«01_k».proof.Proof.KernelArray
public import proofs.«01_k».proof.Proof.RefArray
public import proofs.«01_k».proof.Proof.Pre
public import Idealize.ShloMosaic.Adequacy
public import Idealize.ShloMosaic.Init

@[expose] public section

noncomputable section

namespace Cert.Proof

open Idealize.ShloMosaic Idealize.SL.Sem

/-- Memories that agree on the arguments give the two programs the same result array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Hand.G m' c = Cert.KernelIdeal.Hand.G m c := by
  have k0 : (fun (a : Fin 128) (b : Fin 64) => (m' ((c.tc : Thread Cert.ReferenceIdeal.nD Cert.ReferenceIdeal.τ).loc Cert.ReferenceIdeal.main_arg0) (ix2 a b) : EReal)) = fun (a : Fin 128) (b : Fin 64) => (m ((c.tc : Thread Cert.KernelIdeal.nD Cert.KernelIdeal.τ).loc Cert.KernelIdeal.main_arg0) (ix2 a b) : EReal) := by
    funext a b
    exact congrFun e0 (ix2 a b)
  have k1 : (fun (a : Fin 16) (b : Fin 128) => (m' ((c.tc : Thread Cert.ReferenceIdeal.nD Cert.ReferenceIdeal.τ).loc Cert.ReferenceIdeal.main_arg1) (ix2 a b) : EReal)) = fun (a : Fin 16) (b : Fin 128) => (m ((c.tc : Thread Cert.KernelIdeal.nD Cert.KernelIdeal.τ).loc Cert.KernelIdeal.main_arg1) (ix2 a b) : EReal) := by
    funext a b
    exact congrFun e1 (ix2 a b)
  have k2 : (fun (a : Fin 16) (b : Fin 128) => (m' ((c.tc : Thread Cert.ReferenceIdeal.nD Cert.ReferenceIdeal.τ).loc Cert.ReferenceIdeal.main_arg2) (ix2 a b) : EReal)) = fun (a : Fin 16) (b : Fin 128) => (m ((c.tc : Thread Cert.KernelIdeal.nD Cert.KernelIdeal.τ).loc Cert.KernelIdeal.main_arg2) (ix2 a b) : EReal) := by
    funext a b
    exact congrFun e2 (ix2 a b)
  have k3 : (fun (a : Fin 64) (b : Fin 64) (d : Fin 16384) => (m' ((c.tc : Thread Cert.ReferenceIdeal.nD Cert.ReferenceIdeal.τ).loc Cert.ReferenceIdeal.main_arg3) (ix3 a b d) : EReal)) = fun (a : Fin 64) (b : Fin 64) (d : Fin 16384) => (m ((c.tc : Thread Cert.KernelIdeal.nD Cert.KernelIdeal.τ).loc Cert.KernelIdeal.main_arg3) (ix3 a b d) : EReal) := by
    funext a b d
    exact congrFun e3 (ix3 a b d)
  have k4 : (fun (a : Fin 16) (b : Fin 16384) (d : Fin 64) => (m' ((c.tc : Thread Cert.ReferenceIdeal.nD Cert.ReferenceIdeal.τ).loc Cert.ReferenceIdeal.main_arg4) (ix3 a b d) : EReal)) = fun (a : Fin 16) (b : Fin 16384) (d : Fin 64) => (m ((c.tc : Thread Cert.KernelIdeal.nD Cert.KernelIdeal.τ).loc Cert.KernelIdeal.main_arg4) (ix3 a b d) : EReal) := by
    funext a b d
    exact congrFun e4 (ix3 a b d)
  have k5 : (fun (a : Fin 16) (b : Fin 64) (d : Fin 16384) => (m' ((c.tc : Thread Cert.ReferenceIdeal.nD Cert.ReferenceIdeal.τ).loc Cert.ReferenceIdeal.main_arg5) (ix3 a b d) : EReal)) = fun (a : Fin 16) (b : Fin 64) (d : Fin 16384) => (m ((c.tc : Thread Cert.KernelIdeal.nD Cert.KernelIdeal.τ).loc Cert.KernelIdeal.main_arg5) (ix3 a b d) : EReal) := by
    funext a b d
    exact congrFun e5 (ix3 a b d)
  funext y
  unfold Cert.ReferenceIdeal.Hand.G Cert.KernelIdeal.Hand.G
  rw [k0, k1, k2, k3, k4, k5]

/-- Kernel and reference compute the same function over the extended reals. -/
theorem algebraic : Cert.algebraic_KernelIdeal_ReferenceIdeal_pre_scales_nonneg := by
  intro m g m' g' hpre hargs
  refine ⟨fun c => Cert.KernelIdeal.Hand.G m c, ?_, ?_⟩
  · refine (θ_run Cert.KernelIdeal.defs _ _).mono (fun r h c => ?_) (Cert.KernelIdeal.Value.run_blocks m g)
    have hn := Cert.Pre_scales_nonneg.Hand.nonneg _ _ _ _ _ _ (fun x => x.elim0) (congrFun (hpre c) _)
    exact ⟨(h c).1.trans (Cert.KernelIdeal.Hand.array m c (fun a b => hn.1 _) (fun a b => hn.2 _)), (h c).2⟩
  · refine (θ_run Cert.ReferenceIdeal.defs _ _).mono (fun r h c => ?_) (Cert.ReferenceIdeal.Value.run_blocks m' g')
    obtain ⟨e0, e1, e2, e3, e4, e5⟩ := hargs c
    exact ⟨(h c).1.trans ((Cert.ReferenceIdeal.Hand.array m' c).trans (results_eq m m' c e0 e1 e2 e3 e4 e5)), (h c).2⟩

/-- Everything claimed. -/
theorem claim : Cert.Claim :=
  ⟨Cert.Kernel.Gen.facts, Cert.KernelIdeal.Gen.facts, Cert.ReferenceIdeal.Gen.facts, Cert.Pre_scales_nonneg.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    IdealRules.named_const.statement Cert.KernelIdeal.κ "log2e" .f32 0x3FB8AA3B#32 _ rfl, algebraic⟩

end Cert.Proof

end
